-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Synced (m : (ℓ : Loc Cert.Synced.nD Cert.Synced.τ Cert.Synced.sig) → Buf (Elt Bits) ℓ) : Prop :=
  True

def Pre_SyncedIdeal (m : (ℓ : Loc Cert.SyncedIdeal.nD Cert.SyncedIdeal.τ Cert.SyncedIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_Synced [hSynced : Cert.Synced.Facts] : Prop :=
  ∀ (m : (ℓ : Loc Cert.Synced.nD Cert.Synced.τ Cert.Synced.sig) → Buf (Elt Bits) ℓ) (g : Dev Cert.Synced.nD → PrngReg), Pre_Synced m →
    θ_run (Cert.Synced.defs (F := Bits)) (onTc (τ := Cert.Synced.τ) (Cert.Synced.main (F := Bits))) ⟨m, fun _ => 0, g⟩ (fun r => (∀ c : Dev Cert.Synced.nD,
      r.2.mem ((c.tc : Thread Cert.Synced.nD Cert.Synced.τ).loc Cert.Synced.main_arg0) = m ((c.tc : Thread Cert.Synced.nD Cert.Synced.τ).loc Cert.Synced.main_arg0))
      ∧ r.2.sem = fun _ => 0)

def quiescent_SyncedIdeal [hSyncedIdeal : Cert.SyncedIdeal.Facts] : Prop :=
  ∀ (m : (ℓ : Loc Cert.SyncedIdeal.nD Cert.SyncedIdeal.τ Cert.SyncedIdeal.sig) → Buf (Elt Ideal) ℓ) (g : Dev Cert.SyncedIdeal.nD → PrngReg), Pre_SyncedIdeal m →
    θ_run (Cert.SyncedIdeal.defs (F := Ideal)) (onTc (τ := Cert.SyncedIdeal.τ) (Cert.SyncedIdeal.main (F := Ideal))) ⟨m, fun _ => 0, g⟩ (fun r => (∀ c : Dev Cert.SyncedIdeal.nD,
      r.2.mem ((c.tc : Thread Cert.SyncedIdeal.nD Cert.SyncedIdeal.τ).loc Cert.SyncedIdeal.main_arg0) = m ((c.tc : Thread Cert.SyncedIdeal.nD Cert.SyncedIdeal.τ).loc Cert.SyncedIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def preserves_Synced_SyncedIdeal : Prop :=
  True

def algebraic_KernelIdeal_ReferenceIdeal_on_settled [hKernelIdeal : Cert.KernelIdeal.Facts] [hReferenceIdeal : Cert.ReferenceIdeal.Facts] [hOn_settled : Cert.On_settled.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![32768, 1024]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![2048, 1024]⟩ : Shape).Idx, (Layout.block ⟨2, ![2048, 1024]⟩ ⟨2, ![32768, 1024]⟩ 0 16 c ((Cert.On_settled.fn (F := Ideal) (m' (((0 : Dev Cert.ReferenceIdeal.nD).tc : Thread Cert.ReferenceIdeal.nD Cert.ReferenceIdeal.τ).loc Cert.ReferenceIdeal.main_arg0)))) : (⟨2, ![2048, 1024]⟩ : Shape).Idx → _) i = 1#1 → r.2.mem ((c.tc : Thread Cert.KernelIdeal.nD Cert.KernelIdeal.τ).loc Cert.KernelIdeal.main_v1) i = (Layout.block ⟨2, ![2048, 1024]⟩ ⟨2, ![32768, 1024]⟩ 0 16 c v0 : (⟨2, ![2048, 1024]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![32768, 1024]⟩ : Shape).Idx, (Cert.On_settled.fn (F := Ideal) (m' (((0 : Dev Cert.ReferenceIdeal.nD).tc : Thread Cert.ReferenceIdeal.nD Cert.ReferenceIdeal.τ).loc Cert.ReferenceIdeal.main_arg0))) i = 1#1 → r.2.mem (((0 : Dev Cert.ReferenceIdeal.nD).tc : Thread Cert.ReferenceIdeal.nD Cert.ReferenceIdeal.τ).loc Cert.ReferenceIdeal.main_v13) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def algebraic_SyncedIdeal_ReferenceIdeal [hSyncedIdeal : Cert.SyncedIdeal.Facts] [hReferenceIdeal : Cert.ReferenceIdeal.Facts] : Prop :=
  ∀ (m : (ℓ : Loc Cert.SyncedIdeal.nD Cert.SyncedIdeal.τ Cert.SyncedIdeal.sig) → Buf (Elt Ideal) ℓ) (g : Dev Cert.SyncedIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_SyncedIdeal m →
    (∀ c : Dev Cert.SyncedIdeal.nD,
      m ((c.tc : Thread Cert.SyncedIdeal.nD Cert.SyncedIdeal.τ).loc Cert.SyncedIdeal.main_arg0) = Layout.block ⟨2, ![2048, 1024]⟩ ⟨2, ![32768, 1024]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v13)),
      θ_run (Cert.SyncedIdeal.defs (F := Ideal)) (onTc (τ := Cert.SyncedIdeal.τ) (Cert.SyncedIdeal.main (F := Ideal))) ⟨m, fun _ => 0, g⟩ (fun r => ∀ c : Dev Cert.SyncedIdeal.nD,
          r.2.mem ((c.tc : Thread Cert.SyncedIdeal.nD Cert.SyncedIdeal.τ).loc Cert.SyncedIdeal.main_v1) = Layout.block ⟨2, ![2048, 1024]⟩ ⟨2, ![32768, 1024]⟩ 0 16 c v0
          ∧ r.2.mem ((c.tc : Thread Cert.SyncedIdeal.nD Cert.SyncedIdeal.τ).loc Cert.SyncedIdeal.main_arg0) = m ((c.tc : Thread Cert.SyncedIdeal.nD Cert.SyncedIdeal.τ).loc Cert.SyncedIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hSynced : Cert.Synced.Facts) (hSyncedIdeal : Cert.SyncedIdeal.Facts) (hReferenceIdeal : Cert.ReferenceIdeal.Facts) (hOn_settled : Cert.On_settled.Facts),
    quiescent_Kernel (hKernel := hKernel)
    ∧ quiescent_KernelIdeal (hKernelIdeal := hKernelIdeal)
    ∧ quiescent_Synced (hSynced := hSynced)
    ∧ quiescent_SyncedIdeal (hSyncedIdeal := hSyncedIdeal)
    ∧ quiescent_ReferenceIdeal (hReferenceIdeal := hReferenceIdeal)
    ∧ preserves_Kernel_KernelIdeal
    ∧ preserves_Synced_SyncedIdeal
    ∧ algebraic_KernelIdeal_ReferenceIdeal_on_settled (hKernelIdeal := hKernelIdeal) (hReferenceIdeal := hReferenceIdeal) (hOn_settled := hOn_settled)
    ∧ algebraic_SyncedIdeal_ReferenceIdeal (hSyncedIdeal := hSyncedIdeal) (hReferenceIdeal := hReferenceIdeal)
-- ==== On_settled.lean ====
abbrev S32768x1024 : Shape := ⟨2, ![32768, 1024]⟩
abbrev S_ : Shape := ⟨0, ![]⟩

class Facts : Prop where
  bcast_S_S32768x1024 : S_.BroadcastsInDim S32768x1024 (![] : Fin 0 → Fin S32768x1024.rank)

variable [Facts]

def fn {F : FTy → Type} [FloatOps F] (main_arg0 : FVec F S32768x1024 .f32) : IVec S32768x1024 1 :=
  let main_v0 : IVec S32768x1024 32 := iotaInDim S32768x1024 32 0
  let main_c : IVec S_ 32 := constantI S_ 32 2048#32
  let main_v1 : IVec S32768x1024 32 := broadcastInDim S32768x1024 ![] bcast_S_S32768x1024 main_c
  let main_v2 : IVec S32768x1024 32 := Host.remsi main_v0 main_v1
  let main_c_0 : IVec S_ 32 := constantI S_ 32 0#32
  let main_v3 : IVec S32768x1024 32 := broadcastInDim S32768x1024 ![] bcast_S_S32768x1024 main_c_0
  let main_v4 : IVec S32768x1024 1 := cmpi .ne main_v2 main_v3
  let main_c_1 : IVec S_ 32 := constantI S_ 32 2047#32
  let main_v5 : IVec S32768x1024 32 := broadcastInDim S32768x1024 ![] bcast_S_S32768x1024 main_c_1
  let main_v6 : IVec S32768x1024 1 := cmpi .ne main_v2 main_v5
  let main_v7 : IVec S32768x1024 1 := andi main_v4 main_v6
  let main_c_2 : IVec S_ 32 := constantI S_ 32 0#32
  let main_v8 : IVec S32768x1024 32 := broadcastInDim S32768x1024 ![] bcast_S_S32768x1024 main_c_2
  let main_v9 : IVec S32768x1024 1 := cmpi .eq main_v0 main_v8
  let main_c_3 : IVec S_ 32 := constantI S_ 32 32767#32
  let main_v10 : IVec S32768x1024 32 := broadcastInDim S32768x1024 ![] bcast_S_S32768x1024 main_c_3
  let main_v11 : IVec S32768x1024 1 := cmpi .eq main_v0 main_v10
  let main_v12 : IVec S32768x1024 1 := ori main_v9 main_v11
  let main_v13 : IVec S32768x1024 1 := ori main_v7 main_v12
  main_v13
-- ==== Kernel.lean ====
abbrev S2048x1024 : Shape := ⟨2, ![2048, 1024]⟩
abbrev S2x1024 : Shape := ⟨2, ![2, 1024]⟩
abbrev S2 : Shape := ⟨1, ![2]⟩
abbrev S1 : Shape := ⟨1, ![1]⟩
abbrev S_ : Shape := ⟨0, ![]⟩
abbrev S1x1024 : Shape := ⟨2, ![1, 1024]⟩
abbrev S2046x1024 : Shape := ⟨2, ![2046, 1024]⟩

abbrev nBuf : Space → Nat
  | .hbm => 2
  | .vmem => 3
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .local _ .vmem, ⟨0, _⟩ => ⟨S2048x1024, .f32⟩
  | .local _ .vmem, ⟨1, _⟩ => ⟨S2048x1024, .f32⟩
  | .local _ .vmem, ⟨2, _⟩ => ⟨S2x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1

abbrev nD : Nat := 16
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v4 : BitVec 1 := Scalar.cmpi .slt v2 c15_i32
  let v5 : BitVec 32 := Scalar.extui v4
  let c0_i32_0 : BitVec 32 := 0#32
  let v6 : BitVec 1 := Scalar.cmpi .ne v5 c0_i32_0
  v6

def k0_dev1 (d0 : Dev nD) : Nat :=
  let c0_i32_20 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_16 : BitVec 32 := 1#32
  let v38 : BitVec 32 := Scalar.addi v2 c1_i32_16
  let c1_i32_19 : BitVec 32 := 1#32
  let v39 : BitVec 32 := Scalar.muli v38 c1_i32_19
  let v40 : BitVec 32 := Scalar.addi c0_i32_20 v39
  v40.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .sgt v2 c0_i32
  let v7 : BitVec 32 := Scalar.extui v3
  let c0_i32_1 : BitVec 32 := 0#32
  let v8 : BitVec 1 := Scalar.cmpi .ne v7 c0_i32_1
  v8

def k0_dev2 (d0 : Dev nD) : Nat :=
  let c0_i32_20 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_16 : BitVec 32 := 1#32
  let v38 : BitVec 32 := Scalar.subi v2 c1_i32_16
  let c1_i32_19 : BitVec 32 := 1#32
  let v39 : BitVec 32 := Scalar.muli v38 c1_i32_19
  let v40 : BitVec 32 := Scalar.addi c0_i32_20 v39
  v40.toNat
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Synced.lean ====
abbrev S2048x1024 : Shape := ⟨2, ![2048, 1024]⟩
abbrev S2x1024 : Shape := ⟨2, ![2, 1024]⟩
abbrev S2 : Shape := ⟨1, ![2]⟩
abbrev S_ : Shape := ⟨0, ![]⟩
abbrev S1 : Shape := ⟨1, ![1]⟩
abbrev S1x1024 : Shape := ⟨2, ![1, 1024]⟩
abbrev S2046x1024 : Shape := ⟨2, ![2046, 1024]⟩

abbrev nBuf : Space → Nat
  | .hbm => 2
  | .vmem => 3
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .local _ .vmem, ⟨0, _⟩ => ⟨S2048x1024, .f32⟩
  | .local _ .vmem, ⟨1, _⟩ => ⟨S2048x1024, .f32⟩
  | .local _ .vmem, ⟨2, _⟩ => ⟨S2x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  (ofTc nBuf bufTy 1 6 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v4 : BitVec 1 := Scalar.cmpi .slt v2 c15_i32
  let v6 : BitVec 32 := Scalar.extui v4
  let c0_i32_0 : BitVec 32 := 0#32
  let v7 : BitVec 1 := Scalar.cmpi .ne v6 c0_i32_0
  v7

def k0_dev1 (d0 : Dev nD) : Nat :=
  let c0_i32_22 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_19 : BitVec 32 := 1#32
  let v46 : BitVec 32 := Scalar.addi v2 c1_i32_19
  let c1_i32_21 : BitVec 32 := 1#32
  let v47 : BitVec 32 := Scalar.muli v46 c1_i32_21
  let v48 : BitVec 32 := Scalar.addi c0_i32_22 v47
  v48.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .sgt v2 c0_i32
  let v8 : BitVec 32 := Scalar.extui v3
  let c0_i32_1 : BitVec 32 := 0#32
  let v9 : BitVec 1 := Scalar.cmpi .ne v8 c0_i32_1
  v9

def k0_dev2 (d0 : Dev nD) : Nat :=
  let c0_i32_22 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_19 : BitVec 32 := 1#32
  let v46 : BitVec 32 := Scalar.subi v2 c1_i32_19
  let c1_i32_21 : BitVec 32 := 1#32
  let v47 : BitVec 32 := Scalar.muli v46 c1_i32_21
  let v48 : BitVec 32 := Scalar.addi c0_i32_22 v47
  v48.toNat
def k0_amt1 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .sgt v2 c0_i32
  let v10 : BitVec 32 := Scalar.extui v3
  let c15_i32 : BitVec 32 := 15#32
  let v4 : BitVec 1 := Scalar.cmpi .slt v2 c15_i32
  let v11 : BitVec 32 := Scalar.extui v4
  let v12 : BitVec 32 := Scalar.addi v10 v11
  v12

def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v4 : BitVec 1 := Scalar.cmpi .slt v2 c15_i32
  let v13 : BitVec 32 := Scalar.extui v4
  let c0_i32_2 : BitVec 32 := 0#32
  let v14 : BitVec 1 := Scalar.cmpi .ne v13 c0_i32_2
  v14

def k0_dev3 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_19 : BitVec 32 := 1#32
  let v46 : BitVec 32 := Scalar.addi v2 c1_i32_19
  let c1_i32_22 : BitVec 32 := 1#32
  let v47 : BitVec 32 := Scalar.muli v46 c1_i32_22
  let v48 : BitVec 32 := Scalar.addi c0_i32_23 v47
  v48.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .sgt v2 c0_i32
  let v15 : BitVec 32 := Scalar.extui v3
  let c0_i32_3 : BitVec 32 := 0#32
  let v16 : BitVec 1 := Scalar.cmpi .ne v15 c0_i32_3
  v16

def k0_dev4 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_19 : BitVec 32 := 1#32
  let v46 : BitVec 32 := Scalar.subi v2 c1_i32_19
  let c1_i32_22 : BitVec 32 := 1#32
  let v47 : BitVec 32 := Scalar.muli v46 c1_i32_22
  let v48 : BitVec 32 := Scalar.addi c0_i32_23 v47
  v48.toNat
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S32768x1024 : Shape := ⟨2, ![32768, 1024]⟩
abbrev S32766x1024 : Shape := ⟨2, ![32766, 1024]⟩
abbrev S_ : Shape := ⟨0, ![]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32766x1024, .f32⟩
  | .hbm, ⟨2, _⟩ => ⟨S_, .f32⟩
  | .hbm, ⟨3, _⟩ => ⟨S32766x1024, .f32⟩
  | .hbm, ⟨4, _⟩ => ⟨S32766x1024, .f32⟩
  | .hbm, ⟨5, _⟩ => ⟨S32766x1024, .f32⟩
  | .hbm, ⟨6, _⟩ => ⟨S_, .f32⟩
  | .hbm, ⟨7, _⟩ => ⟨S32766x1024, .f32⟩
  | .hbm, ⟨8, _⟩ => ⟨S32766x1024, .f32⟩
  | .hbm, ⟨9, _⟩ => ⟨S32766x1024, .f32⟩
  | .hbm, ⟨10, _⟩ => ⟨S32766x1024, .f32⟩
  | .hbm, ⟨11, _⟩ => ⟨S_, .f32⟩
  | .hbm, ⟨12, _⟩ => ⟨S32766x1024, .f32⟩
  | .hbm, ⟨13, _⟩ => ⟨S32766x1024, .f32⟩
  | .hbm, ⟨14, _⟩ => ⟨S32766x1024, .f32⟩
  | .hbm, ⟨15, _⟩ => ⟨S1x1024, .f32⟩
  | .hbm, ⟨16, _⟩ => ⟨S1x1024, .f32⟩
  | .hbm, ⟨17, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Proof.Protocol.lean ====
/-
  The halo exchange with its entry handshake: who signals, sends to and waits for whom.

  The sixteen devices stand in a line. Device `c` exchanges one row with each neighbour it has, and everything about
  one of its two sides is written once, for a direction `b`: `true` is towards the device of the next number, `false`
  towards the one before. `Has b c` says there is a neighbour on that side, `nb b c` names it (cyclically, so that it
  is a function; at the two ends of the line it names a device nothing is exchanged with).

  For every device `c` and direction `b`:
  * the barrier counter of `c` is raised once by the neighbour in direction `b`, when that neighbour has entered the
    kernel; with the unit comes the right to write the neighbour's landing row that faces `c`;
  * the send counter `sS b` of `c` is raised when `c`'s own copy in direction `b` has left; with it comes back the
    share of the row that was read;
  * the receive counter `vS b` of `c` is raised when the neighbour's row has landed; with it comes the landing row
    holding that neighbour's edge row.
-/
module

public import proofs.«01_k».proof.Proof.Gen.SyncedIdeal.Skeleton
public import proofs.«01_k».proof.Proof.Gen.SyncedIdeal.Launch
public import proofs.«01_k».proof.Proof.Gen.SyncedIdeal.Points
public import Idealize.ShloMosaic.Lib.Rounds
public import Idealize.ShloMosaic.Lib.Writes
public import Idealize.ShloMosaic.Lib.Pipeline.Launch
public import Idealize.ShloMosaic.Lib.Pipeline.Kit
public import Idealize.ShloMosaic.Lib.Tactic

@[expose] public section

noncomputable section

namespace Cert.SyncedProof

open Cert.SyncedIdeal Cert.SyncedIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state: the pipeline's own, and the rounds of the exchange's counters with one duty per direction. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The machine at the start: memory `m`, every counter zero. -/
def s₀ : MemSt nD τ sig (Elt F) := ⟨m, fun _ => 0, ρ⟩

/-! ## The line of devices -/

/-- Device `c` has a neighbour in direction `b`. -/
def Has : Bool → Dev nD → Prop
  | true, c => c.val < 15
  | false, c => 0 < c.val

instance (b : Bool) (c : Dev nD) : Decidable (Has b c) := by cases b <;> (unfold Has; infer_instance)

set_option backward.proofsInPublic true in
/-- The neighbour in direction `b`, around a ring. -/
def nb : Bool → Dev nD → Dev nD
  | true, c => ⟨(c.val + 1) % 16, Nat.mod_lt _ (by decide)⟩
  | false, c => ⟨(c.val + 15) % 16, Nat.mod_lt _ (by decide)⟩

theorem nb_back (b : Bool) (c : Dev nD) : nb (!b) (nb b c) = c := by revert b c; decide
theorem has_nb (b : Bool) (c : Dev nD) : Has (!b) (nb b c) ↔ Has b c := by revert b c; decide

/-- Crossing the link on a device's side `b`: the neighbour, and its side that faces back. -/
def cross : Dev nD × Bool ≃ Dev nD × Bool where
  toFun e := (nb e.2 e.1, !e.2)
  invFun e := (nb e.2 e.1, !e.2)
  left_inv := fun ⟨c, b⟩ => by simp [nb_back]
  right_inv := fun ⟨c, b⟩ => by simp [nb_back]

/-! ## Rows, counters and cells -/

abbrev xM : Memref sig .tc .vmem S2048x1024 .f32 := Memref.whole cc0_stg0_0
abbrev oM : Memref sig .tc .vmem S2048x1024 .f32 := Memref.whole cc0_stg1_0
abbrev kM : Memref sig .tc .vmem S2x1024 .f32 := Memref.whole cc0_scratch0

/-- The row of its block a device sends in direction `b`: its last one up, its first one down. -/
abbrev edgeM : Bool → Memref sig .tc .vmem S1x1024 .f32
  | true => xM.slice (Rect.unit (s := S2048x1024) ![2047, 0] S1x1024.size inb_S2048x1024_S1x1024_2047_0) (fun _ => rfl)
  | false => xM.slice (Rect.unit (s := S2048x1024) ![0, 0] S1x1024.size inb_S2048x1024_S1x1024_0_0) (fun _ => rfl)

/-- The landing row for what comes from direction `b`. -/
abbrev slotM : Bool → Memref sig .tc .vmem S1x1024 .f32
  | true => kM.slice (Rect.unit (s := S2x1024) ![1, 0] S1x1024.size inb_S2x1024_S1x1024_1_0) (fun _ => rfl)
  | false => kM.slice (Rect.unit (s := S2x1024) ![0, 0] S1x1024.size inb_S2x1024_S1x1024_0_0) (fun _ => rfl)

abbrev barS : Sem sig := (SemArray.scalar (sig.barrier 0 rfl) : Sems sig S_).sem
/-- The counter of the copy sent in direction `b`. -/
abbrev sS : Bool → DmaSem sig
  | true => ⟨2, by decide⟩
  | false => ⟨3, by decide⟩
/-- The counter of the copy that comes from direction `b`. -/
abbrev vS : Bool → DmaSem sig
  | true => ⟨5, by decide⟩
  | false => ⟨4, by decide⟩

/-- The kernel reaches these four by slicing its two semaphore arrays. -/
theorem send_slice0 : ((cc0_scratch1.slice (Rect.unit (s := S2) ![0] S1.size inb_S2_S1_0)).squeeze S_ squeezes_S1_S_).sem = sS true := rfl
theorem send_slice1 : ((cc0_scratch1.slice (Rect.unit (s := S2) ![1] S1.size inb_S2_S1_1)).squeeze S_ squeezes_S1_S_).sem = sS false := rfl
theorem recv_slice0 : ((cc0_scratch2.slice (Rect.unit (s := S2) ![0] S1.size inb_S2_S1_0)).squeeze S_ squeezes_S1_S_).sem = vS false := rfl
theorem recv_slice1 : ((cc0_scratch2.slice (Rect.unit (s := S2) ![1] S1.size inb_S2_S1_1)).squeeze S_ squeezes_S1_S_).sem = vS true := rfl

/-- The counters of one device: the barrier's (`none`), and for each direction the send's and the receive's. -/
abbrev Role : Type := Option (Bool × Bool)

abbrev semOf : Role → SemLoc sig
  | none => .reg barS
  | some (false, b) => .dma (sS b)
  | some (true, b) => .dma (vS b)

abbrev cell (c : Dev nD) (k : Role) : GSem nD τ sig := ((c : Thread nD τ), semOf k)
abbrev barC (c : Dev nD) : GSem nD τ sig := cell c none
abbrev sC (c : Dev nD) (b : Bool) : GSem nD τ sig := cell c (some (false, b))
abbrev vC (c : Dev nD) (b : Bool) : GSem nD τ sig := cell c (some (true, b))

theorem semOf_inj : Function.Injective semOf := by
  intro k k' h
  revert k k'; decide

/-- The bytes' worth of credit one row's copy raises a counter by. -/
abbrev N : ℕ := (slotM true).view.dmaCredit
theorem N_pos : 0 < N := View.dmaCredit_pos _ (by decide)
theorem slot_credit (b : Bool) : (slotM b).view.dmaCredit = N := by cases b <;> rfl
theorem edge_credit (b : Bool) : (edgeM b).view.dmaCredit = N := by cases b <;> rfl

/-! ## Contents -/

/-- The block of the input device `c` holds in its staging buffer. -/
def xstg (c : Dev nD) : (cc0_stg0_0 : Ref sig .tc).ty.Contents (Elt F) :=
  (win0_0.blk (0 : Fin 1)).view.read (Elt F) ((s₀ m ρ).mem ((c : Thread nD τ).loc main_arg0))

/-- The row device `c` sends in direction `b`. -/
def edgeRow (c : Dev nD) (b : Bool) : S1x1024.Idx → Elt F .f32 :=
  match b with
  | true => (edgeM true).view.read (Elt F) (xstg m ρ c)
  | false => (edgeM false).view.read (Elt F) (xstg m ρ c)

/-- Some contents of the landing buffer, for the rows a statement says nothing of. -/
def blank : (cc0_scratch0 : Ref sig .tc).ty.Contents (Elt F) := fun _ => (Scalar.ofBits .f32 0#32 : F .f32)

/-- The landing buffer with the row from direction `b` arrived: the neighbour's edge row that faces `c`. -/
def landed (c : Dev nD) (b : Bool) : (cc0_scratch0 : Ref sig .tc).ty.Contents (Elt F) :=
  match b with
  | true => (slotM true).view.write (Elt F) blank (edgeRow m ρ (nb true c) false) Finset.univ
  | false => (slotM false).view.write (Elt F) blank (edgeRow m ρ (nb false c) true) Finset.univ

/-- Device `c`'s landing row for direction `b`, holding `f`'s. -/
def slotPts (c : Dev nD) (b : Bool) (f : (cc0_scratch0 : Ref sig .tc).ty.Contents (Elt F)) : sProp 𝕄 :=
  match b with
  | true => (slotM true).view.loc (c : Thread nD τ) ↦[(slotM true).view.set]{fullShare} f
  | false => (slotM false).view.loc (c : Thread nD τ) ↦[(slotM false).view.set]{fullShare} f

/-- The share of device `c`'s edge row that its copy in direction `b` reads. -/
def edgePts (c : Dev nD) (b : Bool) : sProp 𝕄 :=
  match b with
  | true => (edgeM true).view.loc (c : Thread nD τ) ↦[(edgeM true).view.set]{fullShare.left} xstg m ρ c
  | false => (edgeM false).view.loc (c : Thread nD τ) ↦[(edgeM false).view.set]{fullShare.left} xstg m ρ c

omit [FloatOps F] in
instance slotPts_storable (c : Dev nD) (b : Bool) (f) : BI.Storable (upEmb : UEmb _ 𝕄) (slotPts (F := F) c b f) := by
  cases b <;> (unfold slotPts; infer_instance)
omit [FloatOps F] in
instance edgePts_storable (c : Dev nD) (b : Bool) : BI.Storable (upEmb : UEmb _ 𝕄) (edgePts (F := F) m ρ c b) := by
  cases b <;> (unfold edgePts; infer_instance)

/-! ## The schedule -/

/-- The unit named `b` is due at cell `g`: `g` is the barrier counter of a device that has a neighbour in direction `b`,
    or the counter of that device's copy to or from there. -/
def Due (g : GSem nD τ sig) (b : Bool) : Prop :=
  g.1.2 = .tc ∧ Has b g.1.1 ∧ (g.2 = semOf none ∨ g.2 = semOf (some (false, b)) ∨ g.2 = semOf (some (true, b)))

instance (g : GSem nD τ sig) (b : Bool) : Decidable (Due g b) := by unfold Due; infer_instance

/-- One round. What each unit hands to the counter's owner is as the head of this file says. -/
def sched : Rounds.Schedule (GSem nD τ sig) Bool 𝕄 where
  duties g r := Finset.univ.filter fun b => r = 0 ∧ Due g b
  unitless _ := False
  amount g _ _ := if g.2 = semOf none then 1 else N
  payload g _ b :=
    if g.2 = semOf none then iprop(∃ f, slotPts (nb b g.1.1) (!b) f)
    else if g.2 = semOf (some (false, b)) then edgePts m ρ g.1.1 b
    else if g.2 = semOf (some (true, b)) then slotPts g.1.1 b (landed m ρ g.1.1 b)
    else iprop(emp)
  amount_pos g _ _ _ := by
    split
    · exact Nat.one_pos
    · exact N_pos

instance sched_storable (g : GSem nD τ sig) (r : ℕ) (b : Bool) :
    BI.Storable (upEmb : UEmb _ 𝕄) ((sched (F := F) m ρ).payload g r b) := by
  show BI.Storable upEmb (if g.2 = semOf none then iprop(∃ f, slotPts (nb b g.1.1) (!b) f)
    else if g.2 = semOf (some (false, b)) then edgePts m ρ g.1.1 b
    else if g.2 = semOf (some (true, b)) then slotPts g.1.1 b (landed m ρ g.1.1 b) else iprop(emp))
  (repeat' split) <;> infer_instance

section Tables
variable (c : Dev nD) (b : Bool)

theorem due_bar : Due (barC c) b ↔ Has b c := ⟨fun h => h.2.1, fun h => ⟨rfl, h, .inl rfl⟩⟩
theorem due_send : Due (sC c b) b ↔ Has b c := ⟨fun h => h.2.1, fun h => ⟨rfl, h, .inr (.inl rfl)⟩⟩
theorem due_recv : Due (vC c b) b ↔ Has b c := ⟨fun h => h.2.1, fun h => ⟨rfl, h, .inr (.inr rfl)⟩⟩

/-- At a copy's counter only the unit of that copy's direction is due. -/
theorem due_dma {v d : Bool} (h : Due (cell c (some (v, b))) d) : d = b := by
  rcases h with ⟨-, -, h | h | h⟩
  · exact absurd (semOf_inj h) (by simp)
  · have := semOf_inj h; simp only [Option.some.injEq, Prod.mk.injEq] at this; exact this.2.symm
  · have := semOf_inj h; simp only [Option.some.injEq, Prod.mk.injEq] at this; exact this.2.symm

theorem due_dma_iff (v : Bool) : Due (cell c (some (v, b))) b ↔ Has b c := by
  cases v
  · exact due_send c b
  · exact due_recv c b

theorem mem_duties (g : GSem nD τ sig) (d : Bool) : d ∈ (sched (F := F) m ρ).duties g 0 ↔ Due g d := by
  dsimp only [sched]; simp

theorem duties_later (g : GSem nD τ sig) (r : ℕ) (hr : 1 ≤ r) : (sched (F := F) m ρ).duties g r = ∅ := by
  dsimp only [sched]
  exact Finset.filter_eq_empty_iff.mpr fun _ _ h => by omega

/-- A counter no unit is due at stays at zero. -/
theorem duties_none (g : GSem nD τ sig) (h : ∀ d, ¬ Due g d) (r : ℕ) : (sched (F := F) m ρ).duties g r = ∅ := by
  dsimp only [sched]
  exact Finset.filter_eq_empty_iff.mpr fun d _ h' => h d h'.2

theorem amount_bar (d : Bool) : (sched (F := F) m ρ).amount (barC c) 0 d = 1 := by
  dsimp only [sched]; exact if_pos rfl
theorem amount_dma (v d : Bool) : (sched (F := F) m ρ).amount (cell c (some (v, b))) 0 d = N := by
  dsimp only [sched]; exact if_neg fun h => absurd (semOf_inj h) (by simp)

theorem duties_dma (v : Bool) (h : Has b c) : (sched (F := F) m ρ).duties (cell c (some (v, b))) 0 = {b} := by
  ext d
  rw [mem_duties, Finset.mem_singleton]
  exact ⟨due_dma c b, fun e => e ▸ (due_dma_iff c b v).mpr h⟩

theorem expect_dma (v : Bool) (h : Has b c) : (sched (F := F) m ρ).expect (cell c (some (v, b))) 0 = N := by
  unfold Schedule.expect Schedule.amountOf
  rw [duties_dma m ρ c b v h, Finset.sum_singleton, amount_dma]

/-- How many neighbours device `c` has: the units its barrier counter is raised by. -/
def degree (c : Dev nD) : ℕ := (if Has true c then 1 else 0) + (if Has false c then 1 else 0)

theorem duties_bar : (sched (F := F) m ρ).duties (barC c) 0 = Finset.univ.filter fun d => Has d c := by
  ext d; rw [mem_duties, due_bar]; simp

theorem expect_bar : (sched (F := F) m ρ).expect (barC c) 0 = degree c := by
  unfold Schedule.expect Schedule.amountOf
  rw [duties_bar, Finset.sum_congr rfl fun d _ => amount_bar m ρ c d, Finset.sum_filter, Fintype.sum_bool]
  rfl

theorem payload_bar (d : Bool) : (sched (F := F) m ρ).payload (barC c) 0 d = iprop(∃ f, slotPts (nb d c) (!d) f) := by
  dsimp only [sched]; exact if_pos rfl
/-- What a device hands over with the unit it raises its neighbour's barrier counter by: its landing row on that side. -/
theorem payload_bar_nb : (sched (F := F) m ρ).payload (barC (nb b c)) 0 (!b) = iprop(∃ f, slotPts c b f) := by
  rw [payload_bar, nb_back, Bool.not_not]
theorem payload_send : (sched (F := F) m ρ).payload (sC c b) 0 b = edgePts m ρ c b := by
  dsimp only [sched]; rw [if_neg fun h => absurd (semOf_inj h) (by simp)]; exact if_pos rfl
theorem payload_recv : (sched (F := F) m ρ).payload (vC c b) 0 b = slotPts c b (landed m ρ c b) := by
  dsimp only [sched]
  rw [if_neg fun h => absurd (semOf_inj h) (by simp), if_neg fun h => absurd (semOf_inj h) (by simp)]; exact if_pos rfl

/-- A separating conjunction over the directions of which `p` holds. -/
theorem bigSep_dirs (p : Bool → Prop) [DecidablePred p] (Φ : Bool → sProp 𝕄) :
    bigSep (Finset.univ.filter p) Φ = iprop((if p true then Φ true else emp) ∗ (if p false then Φ false else emp)) := by
  rw [bigSep_filter, bigSep_univ_eq_bigSepL [true, false] (by decide) (by decide)]
  rfl

/-- The neighbour's landing row that faces `c` on side `b`, if there is that neighbour. -/
def peerSlot (c : Dev nD) (b : Bool) : sProp 𝕄 := if Has b c then iprop(∃ f, slotPts (nb b c) (!b) f) else iprop(emp)

theorem rest_bar : bigSep ((sched (F := F) m ρ).duties (barC c) 0 \ ∅) (fun d => (sched (F := F) m ρ).payload (barC c) 0 d)
    = iprop(peerSlot c true ∗ peerSlot c false) := by
  rw [Finset.sdiff_empty, duties_bar, bigSep_dirs]
  rfl

theorem rest_dma (v : Bool) (h : Has b c) :
    bigSep ((sched (F := F) m ρ).duties (cell c (some (v, b))) 0 \ ∅) (fun d => (sched (F := F) m ρ).payload (cell c (some (v, b))) 0 d)
      = (sched (F := F) m ρ).payload (cell c (some (v, b))) 0 b := by
  rw [Finset.sdiff_empty, duties_dma m ρ c b v h, bigSep_singleton]

end Tables

/-! ## What each device owes at the start, and the order in which counters are waited for -/

/-- The unit device `c` owes its neighbour's barrier counter on side `b`. -/
def owedSig (c : Dev nD) (b : Bool) : CellTallies nD τ sig Unit := if Has b c then tallyAt (barC (nb b c)) () 1 else 0
/-- The row's credit device `c` owes its neighbour's receive counter on side `b`. -/
def owedRow (c : Dev nD) (b : Bool) : CellTallies nD τ sig Unit := if Has b c then tallyAt (vC (nb b c) (!b)) () N else 0

/-- What `c` owes once it has signalled: its two rows. -/
def O₂ (c : Dev nD) : CellTallies nD τ sig Unit := 0 + owedRow c false + owedRow c true
/-- What `c` owes at the start. -/
def O₀ (c : Dev nD) : CellTallies nD τ sig Unit := O₂ c + owedSig c false + owedSig c true

def L (g : GSem nD τ sig) : Finset Unit := if g.1.2 = .tc then {()} else ∅
/-- Barrier counters are waited for before receive counters. -/
def lv (g : GSem nD τ sig) (_ : Unit) : ℕ :=
  if g.2 = semOf none then 1 else if g.2 = semOf (some (true, true)) ∨ g.2 = semOf (some (true, false)) then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barC c) () = 1 := if_pos rfl
theorem lv_recv (c : Dev nD) (b : Bool) : lv (vC c b) () = 2 := by cases b <;> rfl

theorem owedRow_pos {c : Dev nD} {b : Bool} {g : GSem nD τ sig} {u : Unit} (h : 0 < owedRow c b g u) : g = vC (nb b c) (!b) := by
  unfold owedRow at h
  split at h
  · rw [tallyAt_apply] at h
    by_contra hn
    rw [if_neg fun e => hn e.1] at h; exact Nat.lt_irrefl 0 h
  · exact absurd h (Nat.lt_irrefl 0)

theorem owedSig_pos {c : Dev nD} {b : Bool} {g : GSem nD τ sig} {u : Unit} (h : 0 < owedSig c b g u) : g = barC (nb b c) := by
  unfold owedSig at h
  split at h
  · rw [tallyAt_apply] at h
    by_contra hn
    rw [if_neg fun e => hn e.1] at h; exact Nat.lt_irrefl 0 h
  · exact absurd h (Nat.lt_irrefl 0)

theorem O₂_pos {c : Dev nD} {g : GSem nD τ sig} {u : Unit} (h : 0 < O₂ c g u) : ∃ b, g = vC (nb b c) (!b) := by
  have h' : 0 < 0 + owedRow c false g u + owedRow c true g u := h
  by_cases h1 : 0 < owedRow c false g u
  · exact ⟨false, owedRow_pos h1⟩
  · refine ⟨true, owedRow_pos (u := u) (Nat.pos_of_ne_zero fun h2 => ?_)⟩
    rw [Nat.eq_zero_of_not_pos h1, h2] at h'
    exact Nat.lt_irrefl 0 h'

theorem O₀_pos {c : Dev nD} {g : GSem nD τ sig} {u : Unit} (h : 0 < O₀ c g u) :
    (∃ b, g = vC (nb b c) (!b)) ∨ ∃ b, g = barC (nb b c) := by
  have h' : 0 < O₂ c g u + owedSig c false g u + owedSig c true g u := h
  by_cases h1 : 0 < O₂ c g u
  · exact .inl (O₂_pos h1)
  · by_cases h2 : 0 < owedSig c false g u
    · exact .inr ⟨false, owedSig_pos h2⟩
    · refine .inr ⟨true, owedSig_pos (u := u) (Nat.pos_of_ne_zero fun h3 => ?_)⟩
      rw [Nat.eq_zero_of_not_pos h1, Nat.eq_zero_of_not_pos h2, h3] at h'
      exact Nat.lt_irrefl 0 h'

omit [FloatOps F] in
/-- The pipeline's own waits come before all of the exchange's. -/
theorem mayWait_stage (c : Dev nD) (q : DmaSem sig)
    (hq : ¬ (SemLoc.dma q = semOf (some (true, true)) ∨ SemLoc.dma q = semOf (some (true, false))))
    (O : CellTallies nD τ sig Unit) (hO : O = O₀ c ∨ O = 0) :
    (levAts L lv : sProp 𝕄) ⊢ MayWait (c : Thread nD τ) (.dma q) () O := by
  rcases hO with rfl | rfl
  · have hlv : lv ((c : Thread nD τ), SemLoc.dma q) () = 0 := by
      unfold lv; rw [if_neg (fun h => by cases h), if_neg hq]
    refine MayOwe.of_cut (L := L) (lev := lv) 0 (fun p hp => by rw [Finset.mem_singleton.mp hp, L_tc]; exact Finset.mem_singleton_self _)
      (fun g u hg => by rcases O₀_pos hg with ⟨b, rfl⟩ | ⟨b, rfl⟩ <;> exact Finset.mem_singleton_self _)
      (fun p hp => by rw [Finset.mem_singleton.mp hp]; exact le_of_eq hlv)
      (fun g u hg => by
        rcases O₀_pos hg with ⟨b, rfl⟩ | ⟨b, rfl⟩
        · rw [lv_recv]; decide
        · rw [lv_bar]; decide)
  · rw [MayWait_zero]; iintro -; iempintro

omit [FloatOps F] in
/-- Waiting for its neighbours to enter, a device owes only rows. -/
theorem mayWait_bar (c : Dev nD) : (levAts L lv : sProp 𝕄) ⊢ MayWait (c : Thread nD τ) (semOf none) () (O₂ c) :=
  MayOwe.of_cut (L := L) (lev := lv) 1 (fun p hp => by rw [Finset.mem_singleton.mp hp, L_tc]; exact Finset.mem_singleton_self _)
    (fun g u hg => by obtain ⟨b, rfl⟩ := O₂_pos hg; exact Finset.mem_singleton_self _)
    (fun p hp => by rw [Finset.mem_singleton.mp hp]; exact le_of_eq (lv_bar c))
    (fun g u hg => by obtain ⟨b, rfl⟩ := O₂_pos hg; rw [lv_recv]; decide)

end Cert.SyncedProof

end
-- ==== Proof.Program.lean ====
/-
  The kernel's body as a sequence of steps, each of which is done only on the devices its condition holds of, and what
  those conditions, target devices and amounts are on device `c`.
-/
module

public import proofs.«01_k».proof.Proof.Protocol

@[expose] public section

noncomputable section

namespace Cert.SyncedProof

open Cert.SyncedIdeal Cert.SyncedIdeal.Gen
open Idealize.ShloMosaic
open Idealize.ShloMosaic.TcCoe
open Idealize.SL.Sem

variable {F : FTy → Type} [FloatOps F]

/-- The programs of one core. -/
abbrev Code (F : FTy → Type) (α : Type) : Type 1 := Prog (TpuEff nD τ sig (Elt F) Λ₀ .tc) α

/-- `e` where `p` holds, nothing where it does not. -/
def opIf (p : Prop) [Decidable p] (e : p → Code F PUnit) : Code F PUnit := if h : p then e h else pure ⟨⟩

theorem opIf_bind {α : Type} (p : Prop) [Decidable p] (e : p → Code F PUnit) (k : PUnit → Code F α) :
    opIf p e >>= k = if h : p then e h >>= k else k ⟨⟩ := by
  unfold opIf
  split <;> rfl

/-- The one-row rectangles of the block the body loads and stores, and the 2046 rows starting at 0, 1, 2. -/
abbrev r0 : Rect S2048x1024 := Rect.unit (s := S2048x1024) ![0, 0] S1x1024.size inb_S2048x1024_S1x1024_0_0
abbrev r1 : Rect S2048x1024 := Rect.unit (s := S2048x1024) ![1, 0] S1x1024.size inb_S2048x1024_S1x1024_1_0
abbrev r2046 : Rect S2048x1024 := Rect.unit (s := S2048x1024) ![2046, 0] S1x1024.size inb_S2048x1024_S1x1024_2046_0
abbrev r2047 : Rect S2048x1024 := Rect.unit (s := S2048x1024) ![2047, 0] S1x1024.size inb_S2048x1024_S1x1024_2047_0
abbrev q0 : Rect S2048x1024 := Rect.unit (s := S2048x1024) ![0, 0] S2046x1024.size inb_S2048x1024_S2046x1024_0_0
abbrev q1 : Rect S2048x1024 := Rect.unit (s := S2048x1024) ![1, 0] S2046x1024.size inb_S2048x1024_S2046x1024_1_0
abbrev q2 : Rect S2048x1024 := Rect.unit (s := S2048x1024) ![2, 0] S2046x1024.size inb_S2048x1024_S2046x1024_2_0
abbrev k0 : Rect S2x1024 := Rect.unit (s := S2x1024) ![0, 0] S1x1024.size inb_S2x1024_S1x1024_0_0
abbrev k1 : Rect S2x1024 := Rect.unit (s := S2x1024) ![1, 0] S1x1024.size inb_S2x1024_S1x1024_1_0

/-- The copy of an edge row to the neighbour `n`. -/
abbrev sendUp (n : Dev nD) : Code F PUnit :=
  Prog.lift (.enqueueDma (edgeM true) (.remote (Dev.tc n : Thread nD τ) (slotM false) (.dma (sS true))) (.dma (vS false))
    (View.wordExact_bits rfl) (View.wordExact_bits rfl) ⟨⟨rfl, Or.inl rfl⟩, trivial⟩)
abbrev sendDown (n : Dev nD) : Code F PUnit :=
  Prog.lift (.enqueueDma (edgeM false) (.remote (Dev.tc n : Thread nD τ) (slotM true) (.dma (sS false))) (.dma (vS true))
    (View.wordExact_bits rfl) (View.wordExact_bits rfl) ⟨⟨rfl, Or.inl rfl⟩, trivial⟩)

/-- The stencil of the block's own rows. -/
abbrev midStep : Code F PUnit := do
  let a ← Prog.lift (.load xM q0.toLoadRect (View.loadsAt_vmem h_S2046x1024))
  let b ← Prog.lift (.load xM q1.toLoadRect (View.loadsAt_vmem h_S2046x1024))
  let d ← Prog.lift (.load xM q2.toLoadRect (View.loadsAt_vmem h_S2046x1024))
  let _ ← Prog.lift (.load oM q1.toLoadRect (View.loadsAt_vmem h_S2046x1024))
  Prog.lift (.store oM q1 (k0_pay5 a b d) Finset.univ (View.stores_vmem_bits_univ h_S2046x1024 rfl) (.inl rfl))

/-- The first row, where there is a device before: its last row is waited for. -/
abbrev topHalo : Code F PUnit := do
  Prog.lift (.waitDma2 (vS false) (edgeM true) (slotM false) (View.wordExact_bits rfl) (View.wordExact_bits rfl))
  let a ← Prog.lift (.load kM k0.toLoadRect (View.loadsAt_vmem h_S1x1024))
  let b ← Prog.lift (.load xM r0.toLoadRect (View.loadsAt_vmem h_S1x1024))
  let d ← Prog.lift (.load xM r1.toLoadRect (View.loadsAt_vmem h_S1x1024))
  let _ ← Prog.lift (.load oM r0.toLoadRect (View.loadsAt_vmem h_S1x1024))
  Prog.lift (.store oM r0 (k0_pay1 a b d) Finset.univ (View.stores_vmem_bits_univ h_S1x1024 rfl) (.inl rfl))

/-- The first row of all. -/
abbrev topKeep : Code F PUnit := do
  let a ← Prog.lift (.load xM r0.toLoadRect (View.loadsAt_vmem h_S1x1024))
  let _ ← Prog.lift (.load oM r0.toLoadRect (View.loadsAt_vmem h_S1x1024))
  Prog.lift (.store oM r0 (k0_pay2 a) Finset.univ (View.stores_vmem_bits_univ h_S1x1024 rfl) (.inl rfl))

/-- The last row, where there is a device after: its first row is waited for. -/
abbrev botHalo : Code F PUnit := do
  Prog.lift (.waitDma2 (vS true) (edgeM false) (slotM true) (View.wordExact_bits rfl) (View.wordExact_bits rfl))
  let a ← Prog.lift (.load xM r2046.toLoadRect (View.loadsAt_vmem h_S1x1024))
  let b ← Prog.lift (.load xM r2047.toLoadRect (View.loadsAt_vmem h_S1x1024))
  let d ← Prog.lift (.load kM k1.toLoadRect (View.loadsAt_vmem h_S1x1024))
  let _ ← Prog.lift (.load oM r2047.toLoadRect (View.loadsAt_vmem h_S1x1024))
  Prog.lift (.store oM r2047 (k0_pay3 a b d) Finset.univ (View.stores_vmem_bits_univ h_S1x1024 rfl) (.inl rfl))

/-- The last row of all. -/
abbrev botKeep : Code F PUnit := do
  let a ← Prog.lift (.load xM r2047.toLoadRect (View.loadsAt_vmem h_S1x1024))
  let _ ← Prog.lift (.load oM r2047.toLoadRect (View.loadsAt_vmem h_S1x1024))
  Prog.lift (.store oM r2047 (k0_pay4 a) Finset.univ (View.stores_vmem_bits_univ h_S1x1024 rfl) (.inl rfl))

abbrev sentUp : Code F PUnit :=
  Prog.lift (.waitDma2 (sS true) (slotM false) (edgeM true) (View.wordExact_bits rfl) (View.wordExact_bits rfl))
abbrev sentDown : Code F PUnit :=
  Prog.lift (.waitDma2 (sS false) (slotM true) (edgeM false) (View.wordExact_bits rfl) (View.wordExact_bits rfl))

/-- The words of the device's place: whether there is a device before it, and after it. -/
abbrev wPrev (d0 : Dev nD) : BitVec 1 := Scalar.cmpi .sgt (Scalar.remsi (Scalar.divsi (Dev.word d0) 1#32) 16#32) 0#32
abbrev wNext (d0 : Dev nD) : BitVec 1 := Scalar.cmpi .slt (Scalar.remsi (Scalar.divsi (Dev.word d0) 1#32) 16#32) 15#32

/-- The body's first part on device `d0`: signal, wait, send, and the stencil of the block's own rows. -/
def first (d0 : Dev nD) : Code F PUnit :=
  (opIf (k0_cond1 d0 = 1#1) fun h => semSignalWord (⟨k0_dev1 d0, k0_dev1_lt d0 h⟩ : Dev nD) barS 1#32) >>= fun _ =>
  (opIf (k0_cond2 d0 = 1#1) fun h => semSignalWord (⟨k0_dev2 d0, k0_dev2_lt d0 h⟩ : Dev nD) barS 1#32) >>= fun _ =>
  semWaitWord barS (k0_amt1 d0) >>= fun _ =>
  (opIf (k0_cond3 d0 = 1#1) fun h => sendUp ⟨k0_dev3 d0, k0_dev3_lt d0 h⟩) >>= fun _ =>
  (opIf (k0_cond4 d0 = 1#1) fun h => sendDown ⟨k0_dev4 d0, k0_dev4_lt d0 h⟩) >>= fun _ =>
  midStep

/-- The rest, of those two words: the two edge rows, and the waits for the device's own copies to have left. -/
def second (p n : BitVec 1) (w : BitVec 32) : Code F PUnit :=
  (opIf (Scalar.cmpi .ne w 0#32 = 1#1) fun _ => topHalo) >>= fun _ =>
  (opIf (Scalar.cmpi .ne (Scalar.extui (Scalar.xori p 1#1) : BitVec 32) 0#32 = 1#1) fun _ => topKeep) >>= fun _ =>
  (opIf (Scalar.cmpi .ne (Scalar.extui n : BitVec 32) 0#32 = 1#1) fun _ => botHalo) >>= fun _ =>
  (opIf (Scalar.cmpi .ne (Scalar.extui (Scalar.xori n 1#1) : BitVec 32) 0#32 = 1#1) fun _ => botKeep) >>= fun _ =>
  (opIf (Scalar.cmpi .ne (Scalar.extui n : BitVec 32) 0#32 = 1#1) fun _ => sentUp) >>= fun _ =>
  (opIf (Scalar.cmpi .ne (Scalar.extui p : BitVec 32) 0#32 = 1#1) fun _ => sentDown)

set_option maxRecDepth 65536 in
theorem part1_eq :
    k0_part1_skel (F := F) xM (Memref.isWhole_whole _) oM (Memref.isWhole_whole _) kM (Memref.isWhole_whole _) cc0_scratch1 cc0_scratch2
      = Prog.op .deviceId fun d0 => first d0 >>= fun _ =>
          pure ⟨Scalar.remsi (Scalar.divsi (Dev.word d0) 1#32) 16#32, wPrev d0, wNext d0, Scalar.extui (wPrev d0)⟩ := by
  unfold first
  refine congrArg (Prog.op TpuEff.deviceId) (funext fun d0 => ?_)
  simp only [Prog.bind_assoc]
  simp only [opIf_bind]
  rfl

set_option maxRecDepth 65536 in
theorem rest_eq :
    cc0_body_skel (F := F) xM (Memref.isWhole_whole _) oM (Memref.isWhole_whole _) kM (Memref.isWhole_whole _) cc0_scratch1 cc0_scratch2
      = k0_part1 (F := F) xM (Memref.isWhole_whole _) oM (Memref.isWhole_whole _) kM (Memref.isWhole_whole _) cc0_scratch1 cc0_scratch2
          >>= fun v => second v.2.1 v.2.2.1 v.2.2.2 := by
  unfold second
  simp only [opIf_bind]
  unfold opIf
  rfl

theorem body_eq :
    cc0_body_skel (F := F) xM (Memref.isWhole_whole _) oM (Memref.isWhole_whole _) kM (Memref.isWhole_whole _) cc0_scratch1 cc0_scratch2
      = Prog.op .deviceId fun d0 => first d0 >>= fun _ => second (wPrev d0) (wNext d0) (Scalar.extui (wPrev d0)) := by
  rw [rest_eq, k0_part1_eq_skeleton, part1_eq]
  refine congrArg (Prog.op (TpuEff.deviceId)) (funext fun d0 => ?_)
  exact (Prog.bind_assoc (first d0) _ _).trans rfl

/-! ## The conditions, target devices and amounts on device `c` -/

section Place
variable (c : Dev nD)

theorem cond1_iff : k0_cond1 c = 1#1 ↔ Has true c := by revert c; decide
theorem cond2_iff : k0_cond2 c = 1#1 ↔ Has false c := by revert c; decide
theorem cond3_iff : k0_cond3 c = 1#1 ↔ Has true c := by revert c; decide
theorem cond4_iff : k0_cond4 c = 1#1 ↔ Has false c := by revert c; decide
theorem prev_iff : Scalar.cmpi .ne (Scalar.extui (wPrev c) : BitVec 32) 0#32 = 1#1 ↔ Has false c := by revert c; decide
theorem noprev_iff : Scalar.cmpi .ne (Scalar.extui (Scalar.xori (wPrev c) 1#1) : BitVec 32) 0#32 = 1#1 ↔ ¬ Has false c := by revert c; decide
theorem next_iff : Scalar.cmpi .ne (Scalar.extui (wNext c) : BitVec 32) 0#32 = 1#1 ↔ Has true c := by revert c; decide
theorem nonext_iff : Scalar.cmpi .ne (Scalar.extui (Scalar.xori (wNext c) 1#1) : BitVec 32) 0#32 = 1#1 ↔ ¬ Has true c := by revert c; decide

theorem dev1_nb (h : k0_cond1 c = 1#1) : (⟨k0_dev1 c, k0_dev1_lt c h⟩ : Dev nD) = nb true c := by revert c; decide
theorem dev2_nb (h : k0_cond2 c = 1#1) : (⟨k0_dev2 c, k0_dev2_lt c h⟩ : Dev nD) = nb false c := by revert c; decide
theorem dev3_nb (h : k0_cond3 c = 1#1) : (⟨k0_dev3 c, k0_dev3_lt c h⟩ : Dev nD) = nb true c := by revert c; decide
theorem dev4_nb (h : k0_cond4 c = 1#1) : (⟨k0_dev4 c, k0_dev4_lt c h⟩ : Dev nD) = nb false c := by revert c; decide

/-- A device waits for as many units on its barrier counter as it has neighbours. -/
theorem amt_degree : ((k0_amt1 c).toInt : ℤ) = (degree c : ℤ) := by revert c; decide

end Place

end Cert.SyncedProof

end
-- ==== Proof.Steps.lean ====
/-
  The exchange's steps, one theorem each, written once for both directions. Every theorem says: holding these resources
  on device `c`, the step runs whether or not its condition holds, and gives those back. What is handed over only where
  there is a neighbour is `emp` where there is none.
-/
module

public import proofs.«01_k».proof.Proof.Program

@[expose] public section

noncomputable section

namespace Cert.SyncedProof

open Cert.SyncedIdeal Cert.SyncedIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Role → ℕ)

abbrev 𝒱₀ : Variants := Variants.none

/-- The weakest precondition of a piece of device `c`'s body. -/
abbrev wpc (c : Dev nD) {α : Type} (p : Code F α) (Q : α → sProp 𝕄) : sProp 𝕄 :=
  wp frame (wpE (defs₀ (F := F)) 𝒱₀ (c : Thread nD τ) none) Set.univ p Q

theorem wpc_ret (c : Dev nD) {α : Type} (a : α) (Q : α → sProp 𝕄) : Q a ⊢ wpc c (Prog.ret a) Q := by
  iintro H
  unfold wpc
  rw [wp_ret]; imodintro; iexact H

/-- The invariant of a counter. -/
abbrev inv (c : Dev nD) (k : Role) : sProp 𝕄 := cellInv ER (sched (F := F) m ρ) (K (c, k)) (cell c k)

/-- What is left of a landing row's ownership after the entry signal: the row, where there is no neighbour. -/
def idleSlot (c : Dev nD) (b : Bool) : sProp 𝕄 := if Has b c then iprop(emp) else iprop(∃ f, slotPts c b f)

/-- After the send: the credits of its counter where it was done, the untouched share of the row where it was not. -/
def sentOut (c : Dev nD) (b : Bool) : sProp 𝕄 := if Has b c then iprop(cred (tallyAt (sC c b) () N)) else edgePts m ρ c b

/-- The credits of the receive counter, where a row comes. -/
def owedIn (c : Dev nD) (b : Bool) : sProp 𝕄 := if Has b c then iprop(cred (tallyAt (vC c b) () N)) else iprop(emp)

/-- The landing row at the end: the neighbour's row where it came, as it was where none does. -/
def slotIn (c : Dev nD) (b : Bool) : sProp 𝕄 := if Has b c then slotPts c b (landed m ρ c b) else iprop(∃ f, slotPts c b f)

/-- Raising the neighbour's barrier counter. -/
theorem step_signal (c : Dev nD) (b : Bool) (p : Prop) [Decidable p] (hp : p ↔ Has b c) (dev : p → Dev nD) (hd : ∀ h, dev h = nb b c)
    (O : CellTallies nD τ sig Unit) (W : Waits sig Unit) (Q : PUnit → sProp 𝕄) :
    iprop((inv m ρ K (nb b c) none ∗ reached ER (barC (nb b c)) 0 ∗ dutyTok ER (barC (nb b c)) 0 (!b) ∗ (∃ f, slotPts c b f)
        ∗ owes (c : Thread nD τ) (O + owedSig c b) W) ∗ ((owes (c : Thread nD τ) O W ∗ idleSlot c b) -∗ Q ⟨⟩))
      ⊢ wpc c (opIf p fun h => semSignalWord (dev h) barS 1#32) Q := by
  unfold opIf idleSlot owedSig
  by_cases h : p
  · have hb := hp.mp h
    rw [dif_pos h, if_pos hb, if_pos hb]
    dsimp only
    rw [hd h]
    unfold semSignalWord
    rw [show (1#32 : BitVec 32).toInt = ((1 : ℕ) : ℤ) from by decide]
    iintro ⟨⟨#HI, #Hr, Ht, Hs, HO⟩, Hk⟩
    iapply (Rounds.wp_signal 𝒱₀ ER (sched m ρ) (c : Thread nD τ) none (dst := (nb b c : Thread nD τ)) (κ := K (nb b c, none)) (sem := barS)
      (d := !b) ((mem_duties m ρ _ _).mpr ((due_bar _ _).mpr ((has_nb b c).mpr hb))) (amount_bar m ρ (nb b c) (!b)) () O rfl) $$ [HO Ht Hs]
    · isplitr; · iexact HI
      isplitl [HO]; · iexact HO
      isplitl [Ht]; · iexact Ht
      isplitl [Hs]
      · iapply (Entails.of_eq (payload_bar_nb m ρ c b).symm); iexact Hs
      · iexact Hr
    iintro HO
    iapply (wpc_ret c ⟨⟩ Q)
    iapply Hk
    isplitl [HO]; · iexact HO
    iempintro
  · have hb : ¬ Has b c := fun h' => h (hp.mpr h')
    rw [dif_neg h, if_neg hb, if_neg hb, add_zero]
    iintro ⟨⟨-, -, -, Hs, HO⟩, Hk⟩
    iapply (wpc_ret c ⟨⟩ Q)
    iapply Hk
    isplitl [HO]; · iexact HO
    iexact Hs

/-- Waiting for the neighbours to have entered: their landing rows come. -/
theorem step_enter (c : Dev nD) (W : Waits sig Unit) (Q : PUnit → sProp 𝕄) :
    iprop((inv m ρ K c none ∗ cred (tallyAt (barC c) () (degree c)) ∗ owes (c : Thread nD τ) (O₂ c) W ∗ levAts L lv ∗ atPos ER (barC c) 0 ∅ 0)
        ∗ ((owes (c : Thread nD τ) (O₂ c) (insert (semOf none, ()) W) ∗ atPos ER (barC c) (0 + 1) ∅ 0 ∗ peerSlot c true ∗ peerSlot c false) -∗ Q ⟨⟩))
      ⊢ wpc c (semWaitWord barS (k0_amt1 c)) Q := by
  unfold semWaitWord
  rw [amt_degree c]
  iintro ⟨⟨#HI, Hc, HO, #Hl, Hat⟩, Hk⟩
  iapply (Rounds.wp_wait_rest_token 𝒱₀ ER (sched m ρ) (c : Thread nD τ) none (κ := K (c, none))
      (wpE_semWait_eq 𝒱₀ (c : Thread nD τ) none Set.univ) (Set.mem_univ _) () (O := O₂ c) (W := W) (R := 0) (m := 0) (T := ∅)
      ((Nat.zero_add _).trans (expect_bar m ρ c).symm)) $$ [Hc HO Hat]
  · isplitr; · iexact HI
    isplitl [Hc]; · iexact Hc
    isplitl [HO]; · iexact HO
    isplitr; · iapply (mayWait_bar c); iexact Hl
    iexact Hat
  iintro ⟨HO, Hat, -, Hp⟩
  iapply (wpc_ret c ⟨⟩ Q)
  iapply Hk
  isplitl [HO]; · iexact HO
  isplitl [Hat]; · iexact Hat
  iapply (Entails.of_eq (rest_bar m ρ c)); iexact Hp

/-- The row's copy upwards lands on the neighbour as that neighbour's `landed` says. -/
theorem pay_up (c : Dev nD) (f : (cc0_scratch0 : Ref sig .tc).ty.Contents (Elt F)) :
    ((slotM false).view.loc (nb true c : Thread nD τ) ↦[(slotM false).view.set]{fullShare}
        (slotM false).view.write (Elt F) f ((edgeM true).view.read (Elt F) (xstg m ρ c)) Finset.univ)
      ⊢ (sched (F := F) m ρ).payload (vC (nb true c) false) 0 false := by
  rw [payload_recv]
  unfold slotPts landed
  dsimp only
  rw [show nb false (nb true c) = c from nb_back true c]
  exact Entails.of_eq (View.pointsTo_write_univ_congr _ _ _ _ _ _)

/-- And downwards. -/
theorem pay_down (c : Dev nD) (f : (cc0_scratch0 : Ref sig .tc).ty.Contents (Elt F)) :
    ((slotM true).view.loc (nb false c : Thread nD τ) ↦[(slotM true).view.set]{fullShare}
        (slotM true).view.write (Elt F) f ((edgeM false).view.read (Elt F) (xstg m ρ c)) Finset.univ)
      ⊢ (sched (F := F) m ρ).payload (vC (nb false c) true) 0 true := by
  rw [payload_recv]
  unfold slotPts landed
  dsimp only
  rw [show nb true (nb false c) = c from nb_back false c]
  exact Entails.of_eq (View.pointsTo_write_univ_congr _ _ _ _ _ _)

/-- The copy of the last row to the device above, which exists. -/
theorem wp_up (c n : Dev nD) (hn : n = nb true c) (hb : Has true c) {hsc : (slotM false : Memref sig (Dev.tc n : Thread nD τ).2.kind .vmem S1x1024 .f32).view.ref.isScScratch = false}
    {hsrc : (edgeM true : Memref sig .tc .vmem S1x1024 .f32).view.WordExact} {hdst : (slotM false : Memref sig .tc .vmem S1x1024 .f32).view.WordExact}
    {hsem : DmaTarget.Typed .vmem (.dma (vS false)) (.remote (Dev.tc n : Thread nD τ) (slotM false : Memref sig .tc .vmem S1x1024 .f32) (.dma (sS true)) hsc)}
    {α : Type} {Q : α → sProp 𝕄} {k : PUnit → Code F α} (O : CellTallies nD τ sig Unit) (W : Waits sig Unit)
    (f : Buf (Elt F) ((slotM false : Memref sig .tc .vmem S1x1024 .f32).view.loc (nb true c : Thread nD τ))) :
    iprop(inv m ρ K c (some (false, true)) ∗ inv m ρ K (nb true c) (some (true, false))
        ∗ ((edgeM true).view.loc (c : Thread nD τ) ↦[(edgeM true).view.set]{fullShare.left} xstg m ρ c)
        ∗ ((slotM false).view.loc (nb true c : Thread nD τ) ↦[(slotM false).view.set]{fullShare} f)
        ∗ owes (c : Thread nD τ) (O + tallyAt (vC (nb true c) false) () N) W
        ∗ dutyTok ER (sC c true) 0 true ∗ reached ER (sC c true) 0 ∗ dutyTok ER (vC (nb true c) false) 0 false ∗ reached ER (vC (nb true c) false) 0)
      ⊢ iprop(((cred (tallyAt (sC c true) () N) ∗ owes (c : Thread nD τ) O W) -∗ wpc c (k ⟨⟩) Q)
          -∗ wpc c (.op (.enqueueDma (edgeM true) (.remote (Dev.tc n : Thread nD τ) (slotM false) (.dma (sS true)) hsc) (.dma (vS false)) hsrc hdst hsem) k) Q) := by
  subst hn
  exact Rounds.wp_send_pointsTo 𝒱₀ ER (sched m ρ) (c : Thread nD τ) none (κ₁ := K (c, some (false, true))) (κ₂ := K (nb true c, some (true, false)))
    (r₁ := 0) (r₂ := 0) (d₁ := true) (d₂ := false) (fd := f)
    ((mem_duties m ρ (sC c true) true).mpr ((due_send c true).mpr hb))
    ((mem_duties m ρ (vC (nb true c) false) false).mpr ((due_recv (nb true c) false).mpr ((has_nb true c).mpr hb)))
    () () N rfl (amount_dma m ρ c true false true) (amount_dma m ρ (nb true c) false true false) O rfl (W := W)
    (Entails.of_eq (payload_send m ρ c true).symm) (pay_up m ρ c f)

/-- The copy of the first row to the device below, which exists. -/
theorem wp_down (c n : Dev nD) (hn : n = nb false c) (hb : Has false c) {hsc : (slotM true : Memref sig (Dev.tc n : Thread nD τ).2.kind .vmem S1x1024 .f32).view.ref.isScScratch = false}
    {hsrc : (edgeM false : Memref sig .tc .vmem S1x1024 .f32).view.WordExact} {hdst : (slotM true : Memref sig .tc .vmem S1x1024 .f32).view.WordExact}
    {hsem : DmaTarget.Typed .vmem (.dma (vS true)) (.remote (Dev.tc n : Thread nD τ) (slotM true : Memref sig .tc .vmem S1x1024 .f32) (.dma (sS false)) hsc)}
    {α : Type} {Q : α → sProp 𝕄} {k : PUnit → Code F α} (O : CellTallies nD τ sig Unit) (W : Waits sig Unit)
    (f : Buf (Elt F) ((slotM true : Memref sig .tc .vmem S1x1024 .f32).view.loc (nb false c : Thread nD τ))) :
    iprop(inv m ρ K c (some (false, false)) ∗ inv m ρ K (nb false c) (some (true, true))
        ∗ ((edgeM false).view.loc (c : Thread nD τ) ↦[(edgeM false).view.set]{fullShare.left} xstg m ρ c)
        ∗ ((slotM true).view.loc (nb false c : Thread nD τ) ↦[(slotM true).view.set]{fullShare} f)
        ∗ owes (c : Thread nD τ) (O + tallyAt (vC (nb false c) true) () N) W
        ∗ dutyTok ER (sC c false) 0 false ∗ reached ER (sC c false) 0 ∗ dutyTok ER (vC (nb false c) true) 0 true ∗ reached ER (vC (nb false c) true) 0)
      ⊢ iprop(((cred (tallyAt (sC c false) () N) ∗ owes (c : Thread nD τ) O W) -∗ wpc c (k ⟨⟩) Q)
          -∗ wpc c (.op (.enqueueDma (edgeM false) (.remote (Dev.tc n : Thread nD τ) (slotM true) (.dma (sS false)) hsc) (.dma (vS true)) hsrc hdst hsem) k) Q) := by
  subst hn
  exact Rounds.wp_send_pointsTo 𝒱₀ ER (sched m ρ) (c : Thread nD τ) none (κ₁ := K (c, some (false, false))) (κ₂ := K (nb false c, some (true, true)))
    (r₁ := 0) (r₂ := 0) (d₁ := false) (d₂ := true) (fd := f)
    ((mem_duties m ρ (sC c false) false).mpr ((due_send c false).mpr hb))
    ((mem_duties m ρ (vC (nb false c) true) true).mpr ((due_recv (nb false c) true).mpr ((has_nb false c).mpr hb)))
    () () N rfl (amount_dma m ρ c false false false) (amount_dma m ρ (nb false c) true true true) O rfl (W := W)
    (Entails.of_eq (payload_send m ρ c false).symm) (pay_down m ρ c f)

/-- What a send takes. -/
abbrev sendRes (c : Dev nD) (b : Bool) : sProp 𝕄 :=
  iprop(inv m ρ K c (some (false, b)) ∗ inv m ρ K (nb b c) (some (true, !b)) ∗ reached ER (sC c b) 0 ∗ reached ER (vC (nb b c) (!b)) 0
    ∗ dutyTok ER (sC c b) 0 b ∗ dutyTok ER (vC (nb b c) (!b)) 0 (!b) ∗ edgePts m ρ c b ∗ peerSlot c b)

/-- Sending the last row up. -/
theorem step_up (c : Dev nD) (p : Prop) [Decidable p] (hp : p ↔ Has true c) (dev : p → Dev nD) (hd : ∀ h, dev h = nb true c)
    (O : CellTallies nD τ sig Unit) (W : Waits sig Unit) (Q : PUnit → sProp 𝕄) :
    iprop((sendRes m ρ K c true ∗ owes (c : Thread nD τ) (O + owedRow c true) W)
        ∗ ((owes (c : Thread nD τ) O W ∗ sentOut m ρ c true) -∗ Q ⟨⟩))
      ⊢ wpc c (opIf p fun h => sendUp (dev h)) Q := by
  unfold opIf sentOut owedRow sendRes peerSlot
  by_cases h : p
  · have hb := hp.mp h
    rw [dif_pos h, if_pos hb, if_pos hb, if_pos hb]
    dsimp only
    rw [hd h]
    simp only [Bool.not_true, Bool.not_false]
    unfold edgePts slotPts
    iintro ⟨⟨⟨#HI, #HI', #Hr, #Hr', Ht, Ht', He, ⟨%f, Hs⟩⟩, HO⟩, Hk⟩
    iapply (wp_up m ρ K c _ rfl hb O W f) $$ [HO Ht Ht' He Hs]
    · isplitr; · iexact HI
      isplitr; · iexact HI'
      isplitl [He]; · iexact He
      isplitl [Hs]; · iexact Hs
      isplitl [HO]; · iexact HO
      isplitl [Ht]; · iexact Ht
      isplitr; · iexact Hr
      isplitl [Ht']; · iexact Ht'
      iexact Hr'
    iintro ⟨Hc, HO⟩
    iapply (wpc_ret c ⟨⟩ Q)
    iapply Hk
    isplitl [HO]; · iexact HO
    iexact Hc
  · have hb : ¬ Has true c := fun h' => h (hp.mpr h')
    rw [dif_neg h, if_neg hb, if_neg hb, if_neg hb, add_zero]
    iintro ⟨⟨⟨-, -, -, -, -, -, He, -⟩, HO⟩, Hk⟩
    iapply (wpc_ret c ⟨⟩ Q)
    iapply Hk
    isplitl [HO]; · iexact HO
    iexact He

/-- Sending the first row down. -/
theorem step_down (c : Dev nD) (p : Prop) [Decidable p] (hp : p ↔ Has false c) (dev : p → Dev nD) (hd : ∀ h, dev h = nb false c)
    (O : CellTallies nD τ sig Unit) (W : Waits sig Unit) (Q : PUnit → sProp 𝕄) :
    iprop((sendRes m ρ K c false ∗ owes (c : Thread nD τ) (O + owedRow c false) W)
        ∗ ((owes (c : Thread nD τ) O W ∗ sentOut m ρ c false) -∗ Q ⟨⟩))
      ⊢ wpc c (opIf p fun h => sendDown (dev h)) Q := by
  unfold opIf sentOut owedRow sendRes peerSlot
  by_cases h : p
  · have hb := hp.mp h
    rw [dif_pos h, if_pos hb, if_pos hb, if_pos hb]
    dsimp only
    rw [hd h]
    simp only [Bool.not_true, Bool.not_false]
    unfold edgePts slotPts
    iintro ⟨⟨⟨#HI, #HI', #Hr, #Hr', Ht, Ht', He, ⟨%f, Hs⟩⟩, HO⟩, Hk⟩
    iapply (wp_down m ρ K c _ rfl hb O W f) $$ [HO Ht Ht' He Hs]
    · isplitr; · iexact HI
      isplitr; · iexact HI'
      isplitl [He]; · iexact He
      isplitl [Hs]; · iexact Hs
      isplitl [HO]; · iexact HO
      isplitl [Ht]; · iexact Ht
      isplitr; · iexact Hr
      isplitl [Ht']; · iexact Ht'
      iexact Hr'
    iintro ⟨Hc, HO⟩
    iapply (wpc_ret c ⟨⟩ Q)
    iapply Hk
    isplitl [HO]; · iexact HO
    iexact Hc
  · have hb : ¬ Has false c := fun h' => h (hp.mpr h')
    rw [dif_neg h, if_neg hb, if_neg hb, if_neg hb, add_zero]
    iintro ⟨⟨⟨-, -, -, -, -, -, He, -⟩, HO⟩, Hk⟩
    iapply (wpc_ret c ⟨⟩ Q)
    iapply Hk
    isplitl [HO]; · iexact HO
    iexact He

/-- A wait on one of the four counters of the copies, where a unit is due at it and nothing is owed: its payload. -/
theorem wait_dma (c : Dev nD) (v b : Bool) (hb : Has b c) (W : Waits sig Unit)
    {s s' : Shape} {e e' : EltTy} {src : Memref sig .tc .vmem s e} {dst : Memref sig .tc .vmem s' e'} {hsrc : src.view.WordExact} {hdst : dst.view.WordExact}
    (q : DmaSem sig) (hq : semOf (some (v, b)) = .dma q) (hN : dst.view.dmaCredit = N) {α : Type} (Q : α → sProp 𝕄) (k : PUnit → Code F α) :
    iprop(inv m ρ K c (some (v, b)) ∗ cred (tallyAt (cell c (some (v, b))) () N) ∗ owes (c : Thread nD τ) 0 W ∗ atPos ER (cell c (some (v, b))) 0 ∅ 0)
      ⊢ iprop((((∃ W', owes (c : Thread nD τ) 0 W') ∗ atPos ER (cell c (some (v, b))) (0 + 1) ∅ 0
            ∗ (sched (F := F) m ρ).payload (cell c (some (v, b))) 0 b) -∗ wpc c (k ⟨⟩) Q)
          -∗ wpc c (.op (.waitDma2 q src dst hsrc hdst) k) Q) := by
  iintro ⟨#HI, Hc, HO, Hat⟩ Hk
  iapply (Rounds.wp_wait_rest_token 𝒱₀ ER (sched m ρ) (c : Thread nD τ) none (κ := K (c, some (v, b))) (sm := semOf (some (v, b)))
      (fun X => by rw [hq]; exact wpE_waitDma2_eq 𝒱₀ (c : Thread nD τ) none Set.univ X) (Set.mem_univ _) () (O := 0) (W := W) (R := 0) (m := 0) (T := ∅)
      (by rw [Nat.zero_add, hN]; exact (expect_dma m ρ c b v hb).symm)) $$ [Hc HO Hat]
  · isplitr; · iexact HI
    isplitl [Hc]; · rw [hN]; iexact Hc
    isplitl [HO]; · iexact HO
    isplitr; · rw [MayWait_zero]; iempintro
    iexact Hat
  iintro ⟨HO, Hat, -, Hp⟩
  iapply Hk
  isplitl [HO]; · iexists _; iexact HO
  isplitl [Hat]; · iexact Hat
  iapply (Entails.of_eq (rest_dma m ρ c b v hb)); iexact Hp

/-- A counter's position at the end of the body: its round is over where it had one. -/
def endPos (c : Dev nD) (v b : Bool) : sProp 𝕄 := atPos ER (cell c (some (v, b))) (if Has b c then 0 + 1 else 0) ∅ 0

/-- At the end every counter of a copy is at zero. -/
theorem close_dma (c : Dev nD) (v b : Bool) :
    iprop(inv m ρ K c (some (v, b)) ∗ endPos c v b) ⊢ iprop(|={Set.univ}=> semVal (cell c (some (v, b))) 0) := by
  unfold endPos
  refine Rounds.cell_close ER (sched m ρ) (Set.mem_univ (K (c, some (v, b)))) (fun h => h) ?_
  intro r hr
  by_cases hb : Has b c
  · rw [if_pos hb] at hr; exact duties_later m ρ _ r hr
  · exact duties_none m ρ _ (fun d hd => hb (due_dma c b hd ▸ (hd.2.1 : Has d c))) r

theorem close_bar (c : Dev nD) :
    iprop(inv m ρ K c none ∗ atPos ER (barC c) (0 + 1) ∅ 0) ⊢ iprop(|={Set.univ}=> semVal (barC c) 0) :=
  Rounds.cell_close ER (sched m ρ) (Set.mem_univ (K (c, none))) (fun h => h) (duties_later m ρ _)

/-- Waiting for the device's own copy to have left: the share of the row comes back, and the
    counter is at zero. -/
theorem step_sent (c : Dev nD) (b : Bool) (p : Prop) [Decidable p] (hp : p ↔ Has b c) (W : Waits sig Unit)
    {s s' : Shape} {e e' : EltTy} {src : Memref sig .tc .vmem s e} {dst : Memref sig .tc .vmem s' e'} {hsrc : src.view.WordExact} {hdst : dst.view.WordExact}
    (hN : dst.view.dmaCredit = N) (q : DmaSem sig) (hq : sS b = q) (Q : PUnit → sProp 𝕄) :
    iprop((inv m ρ K c (some (false, b)) ∗ sentOut m ρ c b ∗ owes (c : Thread nD τ) 0 W ∗ atPos ER (sC c b) 0 ∅ 0)
        ∗ (((∃ W', owes (c : Thread nD τ) 0 W') ∗ semVal (sC c b) 0 ∗ edgePts m ρ c b) -∗ Q ⟨⟩))
      ⊢ wpc c (opIf p fun _ => Prog.lift (.waitDma2 q src dst hsrc hdst)) Q := by
  subst hq
  unfold opIf sentOut
  have hclose := close_dma m ρ K c false b
  unfold endPos at hclose
  by_cases h : p
  · have hb := hp.mp h
    rw [dif_pos h, if_pos hb]
    rw [if_pos hb] at hclose
    iintro ⟨⟨#HI, Hc, HO, Hat⟩, Hk⟩
    iapply (wait_dma m ρ K c false b hb W (sS b) rfl hN Q (fun x => Prog.ret x)) $$ [Hc HO Hat]
    · isplitr; · iexact HI
      isplitl [Hc]; · iexact Hc
      isplitl [HO]; · iexact HO
      iexact Hat
    iintro ⟨HO, Hat, Hp⟩
    imod hclose $$ [Hat] with Hz
    · isplitr; · iexact HI
      iexact Hat
    iapply (wpc_ret c ⟨⟩ Q)
    iapply Hk
    isplitl [HO]; · iexact HO
    isplitl [Hz]; · iexact Hz
    iapply (Entails.of_eq (payload_send m ρ c b)); iexact Hp
  · have hb : ¬ Has b c := fun h' => h (hp.mpr h')
    rw [dif_neg h, if_neg hb]
    rw [if_neg hb] at hclose
    iintro ⟨⟨#HI, Hc, HO, Hat⟩, Hk⟩
    imod hclose $$ [Hat] with Hz
    · isplitr; · iexact HI
      iexact Hat
    iapply (wpc_ret c ⟨⟩ Q)
    iapply Hk
    isplitl [HO]; · iexists _; iexact HO
    isplitl [Hz]; · iexact Hz
    iexact Hc

end Cert.SyncedProof

end
-- ==== Proof.Rows.lean ====
/-
  The steps that compute: the stencil of the block's own rows, and its first and last row. Each theorem says which
  contents the step leaves in the output's staging buffer.
-/
module

public import proofs.«01_k».proof.Proof.Steps

@[expose] public section

noncomputable section

namespace Cert.SyncedProof

open Cert.SyncedIdeal Cert.SyncedIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Role → ℕ)

/-- The share of the input block the body loads from. -/
def xHalf (c : Dev nD) : sProp 𝕄 := xM.view.loc (c : Thread nD τ) ↦{fullShare.right} xstg m ρ c

/-- The output's staging buffer holding `f`. -/
def oPts (c : Dev nD) (f : (cc0_stg1_0 : Ref sig .tc).ty.Contents (Elt F)) : sProp 𝕄 := oM.view.loc (c : Thread nD τ) ↦{fullShare} f

/-- What a load of the rectangle `r` of the input block gives. -/
abbrev xrd (c : Dev nD) (r : Rect S2048x1024) : r.shape.Idx → Elt F .f32 := xM.view.readAt (Elt F) r.toLoadRect (xstg m ρ c)

/-- The output after each of the three stores. -/
def midOut (c : Dev nD) (f : (cc0_stg1_0 : Ref sig .tc).ty.Contents (Elt F)) : (cc0_stg1_0 : Ref sig .tc).ty.Contents (Elt F) :=
  (oM.access q1).write (Elt F) f (k0_pay5 (xrd m ρ c q0) (xrd m ρ c q1) (xrd m ρ c q2)) Finset.univ
def topOut (c : Dev nD) (f : (cc0_stg1_0 : Ref sig .tc).ty.Contents (Elt F)) : (cc0_stg1_0 : Ref sig .tc).ty.Contents (Elt F) :=
  (oM.access r0).write (Elt F) f (if Has false c then k0_pay1 (edgeRow m ρ (nb false c) true) (xrd m ρ c r0) (xrd m ρ c r1) else k0_pay2 (xrd m ρ c r0)) Finset.univ
def botOut (c : Dev nD) (f : (cc0_stg1_0 : Ref sig .tc).ty.Contents (Elt F)) : (cc0_stg1_0 : Ref sig .tc).ty.Contents (Elt F) :=
  (oM.access r2047).write (Elt F) f (if Has true c then k0_pay3 (xrd m ρ c r2046) (xrd m ρ c r2047) (edgeRow m ρ (nb true c) false) else k0_pay4 (xrd m ρ c r2047)) Finset.univ

/-- A load of the landed row gives the neighbour's edge row. -/
theorem read_landed_false (c : Dev nD) : kM.view.readAt (Elt F) k0.toLoadRect (landed m ρ c false) = edgeRow m ρ (nb false c) true :=
  View.read_write_univ (v := kM.access k0) _ _
theorem read_landed_true (c : Dev nD) : kM.view.readAt (Elt F) k1.toLoadRect (landed m ρ c true) = edgeRow m ρ (nb true c) false :=
  View.read_write_univ (v := kM.access k1) _ _

theorem step_mid (c : Dev nD) (f : (cc0_stg1_0 : Ref sig .tc).ty.Contents (Elt F)) (Q : PUnit → sProp 𝕄) :
    iprop((xHalf m ρ c ∗ oPts c f) ∗ ((xHalf m ρ c ∗ oPts c (midOut m ρ c f)) -∗ Q ⟨⟩)) ⊢ wpc c midStep Q := by
  unfold midStep xHalf oPts midOut
  simp only [Prog.lift, Prog.bind_op, Prog.bind_ret]
  iintro ⟨⟨Hx, Ho⟩, Hk⟩
  iapply (wp_load 𝒱₀ (c : Thread nD τ) none Set.univ (m := xM) (Finset.subset_univ _)) $$ Hx; iintro Hx
  iapply (wp_load 𝒱₀ (c : Thread nD τ) none Set.univ (m := xM) (Finset.subset_univ _)) $$ Hx; iintro Hx
  iapply (wp_load 𝒱₀ (c : Thread nD τ) none Set.univ (m := xM) (Finset.subset_univ _)) $$ Hx; iintro Hx
  iapply (wp_load 𝒱₀ (c : Thread nD τ) none Set.univ (m := oM) (Finset.subset_univ _)) $$ Ho; iintro Ho
  iapply (wp_store 𝒱₀ (c : Thread nD τ) none Set.univ (m := oM) (r := q1) (Mk := Finset.univ) (Finset.subset_univ _)) $$ Ho; iintro Ho
  iapply (wpc_ret c ⟨⟩ Q)
  iapply Hk
  isplitl [Hx]; · iexact Hx
  iexact Ho

/-- The first row of a device that has one before it. -/
theorem step_topHalo (c : Dev nD) (p : Prop) [Decidable p] (hp : p ↔ Has false c) (W : Waits sig Unit)
    (f : (cc0_stg1_0 : Ref sig .tc).ty.Contents (Elt F)) (Q : PUnit → sProp 𝕄) :
    iprop((inv m ρ K c (some (true, false)) ∗ owedIn c false ∗ idleSlot c false ∗ owes (c : Thread nD τ) 0 W ∗ atPos ER (vC c false) 0 ∅ 0
          ∗ xHalf m ρ c ∗ oPts c f)
        ∗ (((∃ W', owes (c : Thread nD τ) 0 W') ∗ endPos c true false ∗ slotIn m ρ c false ∗ xHalf m ρ c
          ∗ oPts c (if Has false c then topOut m ρ c f else f)) -∗ Q ⟨⟩))
      ⊢ wpc c (opIf p fun _ => topHalo) Q := by
  unfold opIf owedIn idleSlot slotIn endPos
  by_cases h : p
  · have hb := hp.mp h
    rw [dif_pos h, if_pos hb, if_pos hb, if_pos hb, if_pos hb, if_pos hb]
    unfold xHalf oPts topOut topHalo
    rw [if_pos hb]
    simp only [Prog.lift, Prog.bind_op, Prog.bind_ret]
    iintro ⟨⟨#HI, Hc, -, HO, Hat, Hx, Ho⟩, Hk⟩
    iapply (wait_dma m ρ K c true false hb W (vS false) rfl (slot_credit false) Q) $$ [Hc HO Hat]
    · isplitr; · iexact HI
      isplitl [Hc]; · iexact Hc
      isplitl [HO]; · iexact HO
      iexact Hat
    iintro ⟨HO, Hat, Hs⟩
    ihave Hs := (Entails.of_eq (payload_recv m ρ c false)) $$ Hs
    unfold slotPts
    dsimp only
    iapply (wp_load 𝒱₀ (c : Thread nD τ) none Set.univ (m := kM) (r := k0.toLoadRect) (S := (slotM false).view.set)
      (by rw [View.set_slice]; exact Finset.Subset.refl _)) $$ Hs; iintro Hs
    rw [read_landed_false]
    iapply (wp_load 𝒱₀ (c : Thread nD τ) none Set.univ (m := xM) (Finset.subset_univ _)) $$ Hx; iintro Hx
    iapply (wp_load 𝒱₀ (c : Thread nD τ) none Set.univ (m := xM) (Finset.subset_univ _)) $$ Hx; iintro Hx
    iapply (wp_load 𝒱₀ (c : Thread nD τ) none Set.univ (m := oM) (Finset.subset_univ _)) $$ Ho; iintro Ho
    iapply (wp_store 𝒱₀ (c : Thread nD τ) none Set.univ (m := oM) (r := r0) (Mk := Finset.univ) (Finset.subset_univ _)) $$ Ho; iintro Ho
    iapply (wpc_ret c ⟨⟩ Q)
    iapply Hk
    isplitl [HO]; · iexact HO
    isplitl [Hat]; · iexact Hat
    isplitl [Hs]; · iexact Hs
    isplitl [Hx]; · iexact Hx
    iexact Ho
  · have hb : ¬ Has false c := fun h' => h (hp.mpr h')
    rw [dif_neg h, if_neg hb, if_neg hb, if_neg hb, if_neg hb, if_neg hb]
    iintro ⟨⟨-, -, Hs, HO, Hat, Hx, Ho⟩, Hk⟩
    iapply (wpc_ret c ⟨⟩ Q)
    iapply Hk
    isplitl [HO]; · iexists W; iexact HO
    isplitl [Hat]; · iexact Hat
    isplitl [Hs]; · iexact Hs
    isplitl [Hx]; · iexact Hx
    iexact Ho

/-- The first row of the first device. -/
theorem step_topKeep (c : Dev nD) (p : Prop) [Decidable p] (hp : p ↔ ¬ Has false c)
    (f : (cc0_stg1_0 : Ref sig .tc).ty.Contents (Elt F)) (Q : PUnit → sProp 𝕄) :
    iprop((xHalf m ρ c ∗ oPts c (if Has false c then topOut m ρ c f else f)) ∗ ((xHalf m ρ c ∗ oPts c (topOut m ρ c f)) -∗ Q ⟨⟩))
      ⊢ wpc c (opIf p fun _ => topKeep) Q := by
  unfold opIf
  by_cases h : p
  · have hb := hp.mp h
    rw [dif_pos h, if_neg hb]
    unfold xHalf oPts topOut topKeep
    rw [if_neg hb]
    simp only [Prog.lift, Prog.bind_op, Prog.bind_ret]
    iintro ⟨⟨Hx, Ho⟩, Hk⟩
    iapply (wp_load 𝒱₀ (c : Thread nD τ) none Set.univ (m := xM) (Finset.subset_univ _)) $$ Hx; iintro Hx
    iapply (wp_load 𝒱₀ (c : Thread nD τ) none Set.univ (m := oM) (Finset.subset_univ _)) $$ Ho; iintro Ho
    iapply (wp_store 𝒱₀ (c : Thread nD τ) none Set.univ (m := oM) (r := r0) (Mk := Finset.univ) (Finset.subset_univ _)) $$ Ho; iintro Ho
    iapply (wpc_ret c ⟨⟩ Q)
    iapply Hk
    isplitl [Hx]; · iexact Hx
    iexact Ho
  · have hb : Has false c := Classical.not_not.mp fun h' => h (hp.mpr h')
    rw [dif_neg h, if_pos hb]
    iintro ⟨H, Hk⟩
    iapply (wpc_ret c ⟨⟩ Q)
    iapply Hk; iexact H

/-- The last row of a device that has one after it. -/
theorem step_botHalo (c : Dev nD) (p : Prop) [Decidable p] (hp : p ↔ Has true c) (W : Waits sig Unit)
    (f : (cc0_stg1_0 : Ref sig .tc).ty.Contents (Elt F)) (Q : PUnit → sProp 𝕄) :
    iprop((inv m ρ K c (some (true, true)) ∗ owedIn c true ∗ idleSlot c true ∗ owes (c : Thread nD τ) 0 W ∗ atPos ER (vC c true) 0 ∅ 0
          ∗ xHalf m ρ c ∗ oPts c f)
        ∗ (((∃ W', owes (c : Thread nD τ) 0 W') ∗ endPos c true true ∗ slotIn m ρ c true ∗ xHalf m ρ c
          ∗ oPts c (if Has true c then botOut m ρ c f else f)) -∗ Q ⟨⟩))
      ⊢ wpc c (opIf p fun _ => botHalo) Q := by
  unfold opIf owedIn idleSlot slotIn endPos
  by_cases h : p
  · have hb := hp.mp h
    rw [dif_pos h, if_pos hb, if_pos hb, if_pos hb, if_pos hb, if_pos hb]
    unfold xHalf oPts botOut botHalo
    rw [if_pos hb]
    simp only [Prog.lift, Prog.bind_op, Prog.bind_ret]
    iintro ⟨⟨#HI, Hc, -, HO, Hat, Hx, Ho⟩, Hk⟩
    iapply (wait_dma m ρ K c true true hb W (vS true) rfl (slot_credit true) Q) $$ [Hc HO Hat]
    · isplitr; · iexact HI
      isplitl [Hc]; · iexact Hc
      isplitl [HO]; · iexact HO
      iexact Hat
    iintro ⟨HO, Hat, Hs⟩
    ihave Hs := (Entails.of_eq (payload_recv m ρ c true)) $$ Hs
    unfold slotPts
    dsimp only
    iapply (wp_load 𝒱₀ (c : Thread nD τ) none Set.univ (m := xM) (Finset.subset_univ _)) $$ Hx; iintro Hx
    iapply (wp_load 𝒱₀ (c : Thread nD τ) none Set.univ (m := xM) (Finset.subset_univ _)) $$ Hx; iintro Hx
    iapply (wp_load 𝒱₀ (c : Thread nD τ) none Set.univ (m := kM) (r := k1.toLoadRect) (S := (slotM true).view.set)
      (by rw [View.set_slice]; exact Finset.Subset.refl _)) $$ Hs; iintro Hs
    rw [read_landed_true]
    iapply (wp_load 𝒱₀ (c : Thread nD τ) none Set.univ (m := oM) (Finset.subset_univ _)) $$ Ho; iintro Ho
    iapply (wp_store 𝒱₀ (c : Thread nD τ) none Set.univ (m := oM) (r := r2047) (Mk := Finset.univ) (Finset.subset_univ _)) $$ Ho; iintro Ho
    iapply (wpc_ret c ⟨⟩ Q)
    iapply Hk
    isplitl [HO]; · iexact HO
    isplitl [Hat]; · iexact Hat
    isplitl [Hs]; · iexact Hs
    isplitl [Hx]; · iexact Hx
    iexact Ho
  · have hb : ¬ Has true c := fun h' => h (hp.mpr h')
    rw [dif_neg h, if_neg hb, if_neg hb, if_neg hb, if_neg hb, if_neg hb]
    iintro ⟨⟨-, -, Hs, HO, Hat, Hx, Ho⟩, Hk⟩
    iapply (wpc_ret c ⟨⟩ Q)
    iapply Hk
    isplitl [HO]; · iexists W; iexact HO
    isplitl [Hat]; · iexact Hat
    isplitl [Hs]; · iexact Hs
    isplitl [Hx]; · iexact Hx
    iexact Ho

/-- The last row of the last device. -/
theorem step_botKeep (c : Dev nD) (p : Prop) [Decidable p] (hp : p ↔ ¬ Has true c)
    (f : (cc0_stg1_0 : Ref sig .tc).ty.Contents (Elt F)) (Q : PUnit → sProp 𝕄) :
    iprop((xHalf m ρ c ∗ oPts c (if Has true c then botOut m ρ c f else f)) ∗ ((xHalf m ρ c ∗ oPts c (botOut m ρ c f)) -∗ Q ⟨⟩))
      ⊢ wpc c (opIf p fun _ => botKeep) Q := by
  unfold opIf
  by_cases h : p
  · have hb := hp.mp h
    rw [dif_pos h, if_neg hb]
    unfold xHalf oPts botOut botKeep
    rw [if_neg hb]
    simp only [Prog.lift, Prog.bind_op, Prog.bind_ret]
    iintro ⟨⟨Hx, Ho⟩, Hk⟩
    iapply (wp_load 𝒱₀ (c : Thread nD τ) none Set.univ (m := xM) (Finset.subset_univ _)) $$ Hx; iintro Hx
    iapply (wp_load 𝒱₀ (c : Thread nD τ) none Set.univ (m := oM) (Finset.subset_univ _)) $$ Ho; iintro Ho
    iapply (wp_store 𝒱₀ (c : Thread nD τ) none Set.univ (m := oM) (r := r2047) (Mk := Finset.univ) (Finset.subset_univ _)) $$ Ho; iintro Ho
    iapply (wpc_ret c ⟨⟩ Q)
    iapply Hk
    isplitl [Hx]; · iexact Hx
    iexact Ho
  · have hb : Has true c := Classical.not_not.mp fun h' => h (hp.mpr h')
    rw [dif_neg h, if_pos hb]
    iintro ⟨H, Hk⟩
    iapply (wpc_ret c ⟨⟩ Q)
    iapply Hk; iexact H

end Cert.SyncedProof

end
-- ==== Proof.Local.lean ====
/-
  What the output's staging buffer holds on one device at the end: the three stores cover it, whatever it held before,
  and each element is a stencil of three elements above one another.
-/
module

public import proofs.«01_k».proof.Proof.Rows
public import Idealize.ShloMosaic.Lib.Pipeline.ValueKit.Geometry
public import Idealize.ShloMosaic.Lib.Pipeline.Value

@[expose] public section

noncomputable section

namespace Cert.SyncedProof

open Cert.SyncedIdeal Cert.SyncedIdeal.Gen
open Idealize.ShloMosaic
open Idealize.ShloMosaic.TcCoe

variable {F : FTy → Type} [FloatOps F]
variable (m : (ℓ : Loc nD τ sig) → Buf (Elt F) ℓ) (ρ : Dev nD → PrngReg)

/-- Row `r`, column `j` of a block. -/
def ix (r : ℕ) (hr : r < 2048) (j : Fin 1024) : S2048x1024.Idx := fun
  | ⟨0, _⟩ => (⟨r, hr⟩ : Fin 2048)
  | ⟨1, _⟩ => j

theorem ix_eta (i : S2048x1024.Idx) : i = ix (i 0).val (i 0).isLt (i 1) := by
  funext a
  fin_cases a <;> rfl

/-- A quarter, a half, a quarter of three values, added from the left. -/
def comb (a b d : F .f32) : F .f32 :=
  FloatOps.addf (FloatOps.addf (FloatOps.mulf (Scalar.ofBits .f32 0x3E800000#32) a) (FloatOps.mulf (Scalar.ofBits .f32 0x3F000000#32) b))
    (FloatOps.mulf (Scalar.ofBits .f32 0x3E800000#32) d)

/-- Row `r`, column `j` of the block on device `c`. -/
def xAt (c : Dev nD) (r : ℕ) (hr : r < 2048) (j : Fin 1024) : F .f32 := xstg m ρ c (ix r hr j)

/-- What device `c` leaves: the stencil of its own rows; in its first row the row above is the last of the device
    before, in its last row the row below the first of the device after; at the two ends the row itself. -/
def outAt (c : Dev nD) : (cc0_stg1_0 : Ref sig .tc).ty.Contents (Elt F) := fun i =>
  if h0 : (i 0).val = 0 then
    if Has false c then comb (xAt m ρ (nb false c) 2047 (by decide) (i 1)) (xAt m ρ c 0 (by decide) (i 1)) (xAt m ρ c 1 (by decide) (i 1))
    else xAt m ρ c 0 (by decide) (i 1)
  else if h1 : (i 0).val = 2047 then
    if Has true c then comb (xAt m ρ c 2046 (by decide) (i 1)) (xAt m ρ c 2047 (by decide) (i 1)) (xAt m ρ (nb true c) 0 (by decide) (i 1))
    else xAt m ρ c 2047 (by decide) (i 1)
  else comb (xAt m ρ c ((i 0).val - 1) (by have := (i 0).isLt; change _ < 2048 at this; omega) (i 1))
      (xAt m ρ c (i 0).val (i 0).isLt (i 1))
      (xAt m ρ c ((i 0).val + 1) (by have := (i 0).isLt; change _ < 2048 at this; omega) (i 1))

/-! ## Loads -/

/-- The place in the block of an index of `n` rows from row `a`. -/
theorem place (a n : ℕ) (inb) (j : (Rect.unit (s := S2048x1024) ![a, 0] ![n, 1024] inb).shape.Idx) (h : a + (j 0).val < 2048) :
    (xM.access (Rect.unit (s := S2048x1024) ![a, 0] ![n, 1024] inb)).emb j = ix (a + (j 0).val) h (j 1) := by
  funext d
  refine Fin.ext ?_
  rw [ValueKit.view_emb_slice_whole_unit_val cc0_stg0_0 ![a, 0] ![n, 1024] inb j d]
  fin_cases d
  · rfl
  · exact Nat.zero_add _

/-- The same place, in the output's buffer. -/
theorem place_out (a n : ℕ) (inb) (j : (Rect.unit (s := S2048x1024) ![a, 0] ![n, 1024] inb).shape.Idx) (h : a + (j 0).val < 2048) :
    (oM.access (Rect.unit (s := S2048x1024) ![a, 0] ![n, 1024] inb)).emb j = ix (a + (j 0).val) h (j 1) := by
  funext d
  refine Fin.ext ?_
  rw [ValueKit.view_emb_slice_whole_unit_val cc0_stg1_0 ![a, 0] ![n, 1024] inb j d]
  fin_cases d
  · rfl
  · exact Nat.zero_add _

theorem xrd_apply (c : Dev nD) (a n : ℕ) (inb) (j : (Rect.unit (s := S2048x1024) ![a, 0] ![n, 1024] inb).shape.Idx) (h : a + (j 0).val < 2048) :
    xrd m ρ c (Rect.unit (s := S2048x1024) ![a, 0] ![n, 1024] inb) j = xAt m ρ c (a + (j 0).val) h (j 1) :=
  congrArg (xstg m ρ c) (place a n inb j h)

/-- The edge rows are the block's first and last. -/
theorem edgeRow_true (c : Dev nD) (j : S1x1024.Idx) : edgeRow m ρ c true j = xAt m ρ c 2047 (by decide) (j 1) := by
  have h0 : (j 0).val = 0 := by have := (j 0).isLt; change _ < 1 at this; omega
  refine (congrArg (xstg m ρ c) (place 2047 1 inb_S2048x1024_S1x1024_2047_0 j (by omega))).trans ?_
  unfold xAt
  congr 2
  omega
theorem edgeRow_false (c : Dev nD) (j : S1x1024.Idx) : edgeRow m ρ c false j = xAt m ρ c 0 (by decide) (j 1) := by
  have h0 : (j 0).val = 0 := by have := (j 0).isLt; change _ < 1 at this; omega
  refine (congrArg (xstg m ρ c) (place 0 1 inb_S2048x1024_S1x1024_0_0 j (by omega))).trans ?_
  unfold xAt
  congr 2
  omega

/-! ## Stores -/

/-- A store into `n` rows from row `a` leaves its value in each of their elements. -/
theorem store_in (a n : ℕ) (inb) (f : (cc0_stg1_0 : Ref sig .tc).ty.Contents (Elt F))
    (w : (Rect.unit (s := S2048x1024) ![a, 0] ![n, 1024] inb).shape.Idx → Elt F .f32) (j : (Rect.unit (s := S2048x1024) ![a, 0] ![n, 1024] inb).shape.Idx)
    (h : a + (j 0).val < 2048) :
    (oM.access (Rect.unit (s := S2048x1024) ![a, 0] ![n, 1024] inb)).write (Elt F) f w Finset.univ (ix (a + (j 0).val) h (j 1)) = w j := by
  rw [← place_out a n inb j h]
  exact View.write_emb_of_mem (v := oM.access (Rect.unit (s := S2048x1024) ![a, 0] ![n, 1024] inb)) f w (Finset.mem_univ j)

/-- And leaves the other rows. -/
theorem store_out (a n : ℕ) (inb) (f : (cc0_stg1_0 : Ref sig .tc).ty.Contents (Elt F))
    (w : (Rect.unit (s := S2048x1024) ![a, 0] ![n, 1024] inb).shape.Idx → Elt F .f32) (i : S2048x1024.Idx) (h : (i 0).val < a ∨ a + n ≤ (i 0).val) :
    (oM.access (Rect.unit (s := S2048x1024) ![a, 0] ![n, 1024] inb)).write (Elt F) f w Finset.univ i = f i := by
  refine View.write_of_not_mem (v := oM.access (Rect.unit (s := S2048x1024) ![a, 0] ![n, 1024] inb)) f w Finset.univ fun hm => ?_
  have hm' : i ∈ ((View.whole cc0_stg1_0).slice (Rect.unit (s := S2048x1024) ![a, 0] ![n, 1024] inb)).set := hm
  rw [View.set_slice_whole] at hm'
  have h2 := Rect.mem_set_unit.mp hm' 0
  change a ≤ (i 0).val ∧ (i 0).val < a + n at h2
  omega

/-! ## The three stores together -/

/-- Column `j` of a one-row array. -/
def row1 (j : Fin 1024) : S1x1024.Idx := fun
  | ⟨0, _⟩ => (⟨0, by decide⟩ : Fin 1)
  | ⟨1, _⟩ => j
theorem row1_lt (a : ℕ) (h : a < 2048) (j : Fin 1024) : a + (row1 j 0).val < 2048 := h
/-- Row `r`, column `j` of the middle rows. -/
def mid (r : ℕ) (hr : r < 2046) (j : Fin 1024) : S2046x1024.Idx := fun
  | ⟨0, _⟩ => (⟨r, hr⟩ : Fin 2046)
  | ⟨1, _⟩ => j

theorem xAt_congr (c : Dev nD) {r r' : ℕ} (h : r = r') (hr : r < 2048) (hr' : r' < 2048) (j : Fin 1024) : xAt m ρ c r hr j = xAt m ρ c r' hr' j := by
  subst h; rfl

theorem pay1_apply (a b d : Vec F S1x1024 .f32) (j : S1x1024.Idx) : k0_pay1 a b d j = comb (a j) (b j) (d j) := by
  unfold k0_pay1
  simp only [shapeCast_self]
  rfl
theorem pay3_apply (a b d : Vec F S1x1024 .f32) (j : S1x1024.Idx) : k0_pay3 a b d j = comb (a j) (b j) (d j) := by
  unfold k0_pay3
  simp only [shapeCast_self]
  rfl
theorem pay5_apply (a b d : Vec F S2046x1024 .f32) (j : S2046x1024.Idx) : k0_pay5 a b d j = comb (a j) (b j) (d j) := by
  unfold k0_pay5
  simp only [shapeCast_self]
  rfl
theorem pay2_apply (a : Vec F S1x1024 .f32) (j : S1x1024.Idx) : k0_pay2 a j = a j := by
  unfold k0_pay2
  simp only [shapeCast_self]
theorem pay4_apply (a : Vec F S1x1024 .f32) (j : S1x1024.Idx) : k0_pay4 a j = a j := by
  unfold k0_pay4
  simp only [shapeCast_self]

/-- The row of the device's last store. -/
theorem bot_row (c : Dev nD) (f : (cc0_stg1_0 : Ref sig .tc).ty.Contents (Elt F)) (j : Fin 1024) :
    botOut m ρ c f (ix 2047 (by decide) j)
      = if Has true c then comb (xAt m ρ c 2046 (by decide) j) (xAt m ρ c 2047 (by decide) j) (xAt m ρ (nb true c) 0 (by decide) j)
        else xAt m ρ c 2047 (by decide) j := by
  unfold botOut
  refine (store_in 2047 1 inb_S2048x1024_S1x1024_2047_0 f _ (row1 j) (row1_lt _ (by decide) j)).trans ?_
  split
  · rw [pay3_apply, edgeRow_false]
    exact congrArg₂ (fun a b => comb a b _) (xrd_apply m ρ c 2046 1 inb_S2048x1024_S1x1024_2046_0 (row1 j) (row1_lt _ (by decide) j))
      (xrd_apply m ρ c 2047 1 inb_S2048x1024_S1x1024_2047_0 (row1 j) (row1_lt _ (by decide) j))
  · rw [pay4_apply]
    exact xrd_apply m ρ c 2047 1 inb_S2048x1024_S1x1024_2047_0 (row1 j) (row1_lt _ (by decide) j)

/-- The row of the store before it. -/
theorem top_row (c : Dev nD) (f : (cc0_stg1_0 : Ref sig .tc).ty.Contents (Elt F)) (j : Fin 1024) :
    topOut m ρ c f (ix 0 (by decide) j)
      = if Has false c then comb (xAt m ρ (nb false c) 2047 (by decide) j) (xAt m ρ c 0 (by decide) j) (xAt m ρ c 1 (by decide) j)
        else xAt m ρ c 0 (by decide) j := by
  unfold topOut
  refine (store_in 0 1 inb_S2048x1024_S1x1024_0_0 f _ (row1 j) (row1_lt _ (by decide) j)).trans ?_
  split
  · rw [pay1_apply, edgeRow_true]
    exact congrArg₂ (fun b d => comb _ b d) (xrd_apply m ρ c 0 1 inb_S2048x1024_S1x1024_0_0 (row1 j) (row1_lt _ (by decide) j))
      (xrd_apply m ρ c 1 1 inb_S2048x1024_S1x1024_1_0 (row1 j) (row1_lt _ (by decide) j))
  · rw [pay2_apply]
    exact xrd_apply m ρ c 0 1 inb_S2048x1024_S1x1024_0_0 (row1 j) (row1_lt _ (by decide) j)

/-- The rows of the first store. -/
theorem mid_row (c : Dev nD) (f : (cc0_stg1_0 : Ref sig .tc).ty.Contents (Elt F)) (r : ℕ) (hr : r < 2046) (j : Fin 1024) :
    midOut m ρ c f (ix (1 + r) (by omega) j)
      = comb (xAt m ρ c r (by omega) j) (xAt m ρ c (1 + r) (by omega) j) (xAt m ρ c (2 + r) (by omega) j) := by
  unfold midOut
  refine (store_in 1 2046 inb_S2048x1024_S2046x1024_1_0 f _ (mid r hr j) (by change 1 + r < 2048; omega)).trans ?_
  rw [pay5_apply]
  have e0 := xrd_apply m ρ c 0 2046 inb_S2048x1024_S2046x1024_0_0 (mid r hr j) (by change 0 + r < 2048; omega)
  have e1 := xrd_apply m ρ c 1 2046 inb_S2048x1024_S2046x1024_1_0 (mid r hr j) (by change 1 + r < 2048; omega)
  have e2 := xrd_apply m ρ c 2 2046 inb_S2048x1024_S2046x1024_2_0 (mid r hr j) (by change 2 + r < 2048; omega)
  exact congr (congrArg₂ comb (e0.trans (xAt_congr m ρ c (Nat.zero_add r) _ _ j)) e1) e2

/-- Whatever the buffer held, it holds `outAt` after the three stores. -/
theorem out_eq (c : Dev nD) (f : (cc0_stg1_0 : Ref sig .tc).ty.Contents (Elt F)) :
    botOut m ρ c (topOut m ρ c (midOut m ρ c f)) = outAt m ρ c := by
  funext i
  obtain ⟨r, hi, j, rfl⟩ : ∃ (r : ℕ) (hi : r < 2048) (j : Fin 1024), i = ix r hi j := ⟨_, _, _, ix_eta i⟩
  unfold outAt
  by_cases h1 : r = 2047
  · subst h1
    rw [bot_row]
    rfl
  · have e1 : botOut m ρ c (topOut m ρ c (midOut m ρ c f)) (ix r hi j) = topOut m ρ c (midOut m ρ c f) (ix r hi j) :=
      store_out 2047 1 inb_S2048x1024_S1x1024_2047_0 _ _ (ix r hi j) (by change r < 2047 ∨ _; omega)
    by_cases h0 : r = 0
    · subst h0
      rw [e1, top_row]
      rfl
    · have e0 : topOut m ρ c (midOut m ρ c f) (ix r hi j) = midOut m ρ c f (ix r hi j) :=
        store_out 0 1 inb_S2048x1024_S1x1024_0_0 _ _ (ix r hi j) (by change _ ∨ 0 + 1 ≤ r; omega)
      rw [e1, e0]
      obtain ⟨k, rfl⟩ : ∃ k, r = 1 + k := ⟨r - 1, by omega⟩
      rw [mid_row m ρ c f k (by omega) j, dif_neg (show ¬ ((ix (1 + k) hi j) 0).val = 0 from h0), dif_neg (show ¬ ((ix (1 + k) hi j) 0).val = 2047 from h1)]
      refine congr (congrArg₂ comb (xAt_congr m ρ c ?_ _ _ j) rfl) (xAt_congr m ρ c ?_ _ _ j)
      · change k = 1 + k - 1; omega
      · change 2 + k = 1 + k + 1; omega

end Cert.SyncedProof

end
-- ==== Proof.State.lean ====
/-
  What a device's body starts from and ends with. The parts that concern one of its two sides are written once, for a
  direction.
-/
module

public import proofs.«01_k».proof.Proof.Local

@[expose] public section

noncomputable section

namespace Cert.SyncedProof

open Cert.SyncedIdeal Cert.SyncedIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

section Held
variable (K : Dev nD × Role → ℕ) (c : Dev nD)

/-- What device `c` knows about its side `b`: the invariants of its two counters there and of the neighbour's two it raises. -/
def sideInv (b : Bool) : sProp 𝕄 :=
  iprop(inv m ρ K c (some (false, b)) ∗ inv m ρ K c (some (true, b)) ∗ inv m ρ K (nb b c) none ∗ inv m ρ K (nb b c) (some (true, !b))
    ∗ reached ER (barC (nb b c)) 0 ∗ reached ER (sC c b) 0 ∗ reached ER (vC (nb b c) (!b)) 0)

instance sideInv_persistent (b : Bool) : BI.Persistent (sideInv m ρ K c b) := by unfold sideInv; infer_instance

/-- What it holds for that side: where it stands at its two counters, and the right to raise once each of the
    neighbour's barrier counter, its own send counter and the neighbour's receive counter. -/
def sideHold (b : Bool) : sProp 𝕄 :=
  iprop(atPos ER (sC c b) 0 ∅ 0 ∗ atPos ER (vC c b) 0 ∅ 0
    ∗ dutyTok ER (barC (nb b c)) 0 (!b) ∗ dutyTok ER (sC c b) 0 b ∗ dutyTok ER (vC (nb b c) (!b)) 0 (!b))

/-- Everything the exchange's bookkeeping gives device `c`. -/
def ghost : sProp 𝕄 :=
  iprop((inv m ρ K c none ∗ sideInv m ρ K c true ∗ sideInv m ρ K c false)
    ∗ atPos ER (barC c) 0 ∅ 0 ∗ sideHold c true ∗ sideHold c false)

/-- The credits for what comes to it: a unit from each neighbour, and each neighbour's row. -/
def credits : sProp 𝕄 := iprop(cred (tallyAt (barC c) () (degree c)) ∗ owedIn c true ∗ owedIn c false)

/-- The landing buffer, whatever it holds. -/
def landing : sProp 𝕄 := iprop(∃ f : (cc0_scratch0 : Ref sig .tc).ty.Contents (Elt F), ((c : Thread nD τ).loc cc0_scratch0) ↦{fullShare} f)

/-- At the start. -/
def start : sProp 𝕄 := iprop((∃ K, ghost m ρ K c) ∗ credits c ∗ levAts L lv)

/-- A device's five counters at zero. -/
def zeros : sProp 𝕄 := iprop(semVal (barC c) 0 ∗ (semVal (sC c true) 0 ∗ semVal (sC c false) 0) ∗ (semVal (vC c true) 0 ∗ semVal (vC c false) 0))

def Φ₀ : sProp 𝕄 := iprop(start m ρ c ∗ landing c)
/-- At the end. -/
def Φ₁ : sProp 𝕄 := iprop(landing (F := F) c ∗ zeros c)

end Held

/-- The pipeline's two windows on device `c`: the input block goes in and stays, the stencil comes out. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

/-! ## The input block's shares -/

/-- The places of the row sent in direction `b`. -/
def edgeSet : Bool → Finset S2048x1024.Idx
  | true => (edgeM true).view.set
  | false => (edgeM false).view.set

/-- The places of the landing row for direction `b`. -/
def slotSet : Bool → Finset S2x1024.Idx
  | true => (slotM true).view.set
  | false => (slotM false).view.set

theorem edge_disjoint : Disjoint (edgeSet true) (edgeSet false) := by
  show Disjoint ((View.whole cc0_stg0_0).slice r2047).set ((View.whole cc0_stg0_0).slice r0).set
  rw [View.set_slice_whole, View.set_slice_whole]
  exact Rect.unit_disjoint 0 (Or.inr (by decide))

theorem slot_disjoint : Disjoint (slotSet true) (slotSet false) := by
  show Disjoint ((View.whole cc0_scratch0).slice k1).set ((View.whole cc0_scratch0).slice k0).set
  rw [View.set_slice_whole, View.set_slice_whole]
  exact Rect.unit_disjoint 0 (Or.inr (by decide))

theorem slot_cover : slotSet true ∪ slotSet false = Finset.univ := by
  show ((View.whole cc0_scratch0).slice k1).set ∪ ((View.whole cc0_scratch0).slice k0).set = Finset.univ
  rw [View.set_slice_whole, View.set_slice_whole]
  refine Finset.eq_univ_of_forall fun i => Finset.mem_union.mpr ?_
  have h0 : (i 0).val < 2 := (i 0).isLt
  have h1 : (i 1).val < 1024 := (i 1).isLt
  by_cases h : (i 0).val = 0
  · refine .inr (Rect.mem_set_unit.mpr fun a => ?_)
    fin_cases a
    · change 0 ≤ (i 0).val ∧ (i 0).val < 0 + 1; omega
    · change 0 ≤ (i 1).val ∧ (i 1).val < 0 + 1024; omega
  · refine .inl (Rect.mem_set_unit.mpr fun a => ?_)
    fin_cases a
    · change 1 ≤ (i 0).val ∧ (i 0).val < 1 + 1; omega
    · change 0 ≤ (i 1).val ∧ (i 1).val < 0 + 1024; omega

/-- The left share of the rows that are not sent. -/
def xRest (c : Dev nD) : sProp 𝕄 :=
  xM.view.loc (c : Thread nD τ) ↦[(Finset.univ \ edgeSet true) \ edgeSet false]{fullShare.left} xstg m ρ c

theorem x_split (c : Dev nD) :
    (((c : Thread nD τ).loc cc0_stg0_0) ↦{fullShare} xstg m ρ c : sProp 𝕄)
      ⊣⊢ iprop((edgePts m ρ c true ∗ edgePts m ρ c false ∗ xRest m ρ c) ∗ xHalf m ρ c) := by
  refine (pointsTo_share (PosShare.mem_left_op_right fullShare)).trans ?_
  refine sep_congr ?_ (.of_eq rfl)
  refine (pointsTo_split_subset (Finset.subset_univ (edgeSet true))).trans (sep_congr (.of_eq rfl) ?_)
  exact pointsTo_split_subset (Finset.subset_sdiff.mpr ⟨Finset.subset_univ _, edge_disjoint.symm⟩)

/-! ## The landing buffer's rows -/

theorem slotPts_eq (c : Dev nD) (b : Bool) (f : (cc0_scratch0 : Ref sig .tc).ty.Contents (Elt F)) :
    (slotPts c b f : sProp 𝕄) = (((c : Thread nD τ).loc cc0_scratch0) ↦[slotSet b]{fullShare} f) := by
  cases b <;> rfl

theorem slots_split (c : Dev nD) : (landing c : sProp 𝕄) ⊢ iprop((∃ f, slotPts c true f) ∗ ∃ f, slotPts c false f) := by
  unfold landing
  iintro ⟨%f, H⟩
  rw [← slot_cover]
  ihave H := (pointsTo_union slot_disjoint).1 $$ H
  icases H with ⟨H1, H0⟩
  isplitl [H1]
  · iexists f; rw [slotPts_eq]; iexact H1
  · iexists f; rw [slotPts_eq]; iexact H0

theorem slots_join (c : Dev nD) : iprop((∃ f, slotPts c true f) ∗ ∃ f, slotPts c false f) ⊢ (landing c : sProp 𝕄) := by
  have h (f g : (cc0_scratch0 : Ref sig .tc).ty.Contents (Elt F)) : iprop(slotPts c true f ∗ slotPts c false g) ⊢ (landing c : sProp 𝕄) := by
    rw [slotPts_eq, slotPts_eq]
    refine (pointsTo_join slot_disjoint).trans ?_
    rw [slot_cover]
    unfold landing
    iintro H
    iexists _; iexact H
  iintro ⟨⟨%f, H1⟩, %g, H0⟩
  iapply (h f g)
  isplitl [H1]; · iexact H1
  iexact H0

theorem slotIn_some (c : Dev nD) (b : Bool) : slotIn m ρ c b ⊢ (iprop(∃ f, slotPts c b f) : sProp 𝕄) := by
  unfold slotIn
  split
  · iintro H; iexists _; iexact H
  · iintro H; iexact H

end Cert.SyncedProof

end
-- ==== Proof.Body.lean ====
/-
  One device's body, run step by step: from what it holds at the start to its output and its five counters at zero.
-/
module

public import proofs.«01_k».proof.Proof.State

@[expose] public section

noncomputable section

namespace Cert.SyncedProof

open Cert.SyncedIdeal Cert.SyncedIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

theorem wpc_bind (c : Dev nD) {α β : Type} (p : Code F α) (k : α → Code F β) (Q : β → sProp 𝕄) :
    wpc c p (fun a => wpc c (k a) Q) ⊢ wpc c (p >>= k) Q := by
  unfold wpc
  rw [wp_bind]

section Run
variable (K : Dev nD × Role → ℕ) (c : Dev nD)

/-- What device `c` holds of one side after the first part: its waits are still to come. -/
def sideLeft (b : Bool) : sProp 𝕄 := iprop(idleSlot c b ∗ sentOut m ρ c b ∗ owedIn c b ∗ atPos ER (sC c b) 0 ∅ 0 ∗ atPos ER (vC c b) 0 ∅ 0)

/-- The first part: signals, entry, sends and the middle rows. -/
theorem run_first (W : Waits sig Unit) (f : (cc0_stg1_0 : Ref sig .tc).ty.Contents (Elt F)) (Q : PUnit → sProp 𝕄) :
    iprop((ghost m ρ K c ∗ credits c ∗ levAts L lv ∗ (∃ g, slotPts c true g) ∗ (∃ g, slotPts c false g) ∗ edgePts m ρ c true ∗ edgePts m ρ c false
          ∗ owes (c : Thread nD τ) (O₀ c) W ∗ xHalf m ρ c ∗ oPts c f)
        ∗ (((∃ W', owes (c : Thread nD τ) 0 W') ∗ semVal (barC c) 0 ∗ sideLeft m ρ c true ∗ sideLeft m ρ c false
            ∗ xHalf m ρ c ∗ oPts c (midOut m ρ c f)) -∗ Q ⟨⟩))
      ⊢ wpc c (first c) Q := by
  unfold ghost sideInv sideHold credits sideLeft first
  iintro ⟨⟨⟨⟨#HB, ⟨#HS1, #HV1, #HBn1, #HVn1, #HrB1, #HrS1, #HrV1⟩, ⟨#HS0, #HV0, #HBn0, #HVn0, #HrB0, #HrS0, #HrV0⟩⟩, HaB, ⟨HaS1, HaV1, HtB1, HtS1, HtV1⟩,
    ⟨HaS0, HaV0, HtB0, HtS0, HtV0⟩⟩, ⟨HcB, HcV1, HcV0⟩, #Hl, Hk1, Hk0, He1, He0, HO, Hx, Ho⟩, HQ⟩
  iapply (wpc_bind c _ _ Q)
  iapply (step_signal m ρ K c true _ (cond1_iff c) _ (dev1_nb c) (O₂ c + owedSig c false) W _)
  isplitl [HtB1 Hk1 HO]
  · isplitr; · iexact HBn1
    isplitr; · iexact HrB1
    isplitl [HtB1]; · iexact HtB1
    isplitl [Hk1]; · iexact Hk1
    iexact HO
  iintro ⟨HO, Hi1⟩
  iapply (wpc_bind c _ _ Q)
  iapply (step_signal m ρ K c false _ (cond2_iff c) _ (dev2_nb c) (O₂ c) W _)
  isplitl [HtB0 Hk0 HO]
  · isplitr; · iexact HBn0
    isplitr; · iexact HrB0
    isplitl [HtB0]; · iexact HtB0
    isplitl [Hk0]; · iexact Hk0
    iexact HO
  iintro ⟨HO, Hi0⟩
  iapply (wpc_bind c _ _ Q)
  iapply (step_enter m ρ K c W _)
  isplitl [HcB HO HaB]
  · isplitr; · iexact HB
    isplitl [HcB]; · iexact HcB
    isplitl [HO]; · iexact HO
    isplitr; · iexact Hl
    iexact HaB
  iintro ⟨HO, HaB, Hp1, Hp0⟩
  imod (close_bar m ρ K c) $$ [HaB] with HzB
  · isplitr; · iexact HB
    iexact HaB
  iapply (wpc_bind c _ _ Q)
  iapply (step_up m ρ K c _ (cond3_iff c) _ (dev3_nb c) (0 + owedRow c false) _ _)
  isplitl [HtS1 HtV1 He1 Hp1 HO]
  · isplitr [HO]
    · unfold sendRes
      isplitr; · iexact HS1
      isplitr; · iexact HVn1
      isplitr; · iexact HrS1
      isplitr; · iexact HrV1
      isplitl [HtS1]; · iexact HtS1
      isplitl [HtV1]; · iexact HtV1
      isplitl [He1] <;> iassumption
    · iexact HO
  iintro ⟨HO, Hs1⟩
  iapply (wpc_bind c _ _ Q)
  iapply (step_down m ρ K c _ (cond4_iff c) _ (dev4_nb c) 0 _ _)
  isplitl [HtS0 HtV0 He0 Hp0 HO]
  · isplitr [HO]
    · unfold sendRes
      isplitr; · iexact HS0
      isplitr; · iexact HVn0
      isplitr; · iexact HrS0
      isplitr; · iexact HrV0
      isplitl [HtS0]; · iexact HtS0
      isplitl [HtV0]; · iexact HtV0
      isplitl [He0] <;> iassumption
    · iexact HO
  iintro ⟨HO, Hs0⟩
  iapply (step_mid m ρ c f Q)
  isplitl [Hx Ho]
  · isplitl [Hx] <;> iassumption
  iintro ⟨Hx, Ho⟩
  iapply HQ
  isplitl [HO]; · iexists _; iexact HO
  isplitl [HzB]; · iexact HzB
  isplitl [Hi1 Hs1 HcV1 HaS1 HaV1]
  · isplitl [Hi1]; · iexact Hi1
    isplitl [Hs1]; · iexact Hs1
    isplitl [HcV1]; · iexact HcV1
    isplitl [HaS1] <;> iassumption
  isplitl [Hi0 Hs0 HcV0 HaS0 HaV0]
  · isplitl [Hi0]; · iexact Hi0
    isplitl [Hs0]; · iexact Hs0
    isplitl [HcV0]; · iexact HcV0
    isplitl [HaS0] <;> iassumption
  isplitl [Hx] <;> iassumption

/-- The rest: the two edge rows, and the device's own copies. -/
theorem run_second (W : Waits sig Unit) (f : (cc0_stg1_0 : Ref sig .tc).ty.Contents (Elt F)) (Q : PUnit → sProp 𝕄) :
    iprop((sideInv m ρ K c true ∗ sideInv m ρ K c false ∗ sideLeft m ρ c true ∗ sideLeft m ρ c false
          ∗ owes (c : Thread nD τ) 0 W ∗ xHalf m ρ c ∗ oPts c f)
        ∗ (((∃ W', owes (c : Thread nD τ) 0 W') ∗ ((semVal (sC c true) 0 ∗ semVal (sC c false) 0) ∗ (semVal (vC c true) 0 ∗ semVal (vC c false) 0))
            ∗ ((∃ g, slotPts c true g) ∗ ∃ g, slotPts c false g) ∗ (edgePts m ρ c true ∗ edgePts m ρ c false) ∗ xHalf m ρ c
            ∗ oPts c (botOut m ρ c (topOut m ρ c f))) -∗ Q ⟨⟩))
      ⊢ wpc c (second (wPrev c) (wNext c) (Scalar.extui (wPrev c))) Q := by
  unfold sideInv sideLeft second
  iintro ⟨⟨⟨#HS1, #HV1, -, -, -, -, -⟩, ⟨#HS0, #HV0, -, -, -, -, -⟩, ⟨Hi1, Hs1, HcV1, HaS1, HaV1⟩, ⟨Hi0, Hs0, HcV0, HaS0, HaV0⟩, HO, Hx, Ho⟩, HQ⟩
  iapply (wpc_bind c _ _ Q)
  iapply (step_topHalo m ρ K c _ (prev_iff c) W f _)
  isplitl [HcV0 Hi0 HO HaV0 Hx Ho]
  · isplitr; · iexact HV0
    isplitl [HcV0]; · iexact HcV0
    isplitl [Hi0]; · iexact Hi0
    isplitl [HO]; · iexact HO
    isplitl [HaV0]; · iexact HaV0
    isplitl [Hx] <;> iassumption
  iintro ⟨⟨%W1, HO⟩, HaV0, Hk0, Hx, Ho⟩
  imod (close_dma m ρ K c true false) $$ [HaV0] with Hz0
  · isplitr; · iexact HV0
    iexact HaV0
  iapply (wpc_bind c _ _ Q)
  iapply (step_topKeep m ρ c _ (noprev_iff c) f _)
  isplitl [Hx Ho]
  · isplitl [Hx] <;> iassumption
  iintro ⟨Hx, Ho⟩
  iapply (wpc_bind c _ _ Q)
  iapply (step_botHalo m ρ K c _ (next_iff c) W1 (topOut m ρ c f) _)
  isplitl [HcV1 Hi1 HO HaV1 Hx Ho]
  · isplitr; · iexact HV1
    isplitl [HcV1]; · iexact HcV1
    isplitl [Hi1]; · iexact Hi1
    isplitl [HO]; · iexact HO
    isplitl [HaV1]; · iexact HaV1
    isplitl [Hx] <;> iassumption
  iintro ⟨⟨%W2, HO⟩, HaV1, Hk1, Hx, Ho⟩
  imod (close_dma m ρ K c true true) $$ [HaV1] with Hz1
  · isplitr; · iexact HV1
    iexact HaV1
  iapply (wpc_bind c _ _ Q)
  iapply (step_botKeep m ρ c _ (nonext_iff c) (topOut m ρ c f) _)
  isplitl [Hx Ho]
  · isplitl [Hx] <;> iassumption
  iintro ⟨Hx, Ho⟩
  iapply (wpc_bind c _ _ Q)
  iapply (step_sent m ρ K c true _ (next_iff c) W2 (edge_credit true) _ rfl _)
  isplitl [Hs1 HO HaS1]
  · isplitr; · iexact HS1
    isplitl [Hs1]; · iexact Hs1
    isplitl [HO] <;> iassumption
  iintro ⟨⟨%W3, HO⟩, Hy1, He1⟩
  iapply (step_sent m ρ K c false _ (prev_iff c) W3 (edge_credit false) _ rfl Q)
  isplitl [Hs0 HO HaS0]
  · isplitr; · iexact HS0
    isplitl [Hs0]; · iexact Hs0
    isplitl [HO] <;> iassumption
  iintro ⟨HO, Hy0, He0⟩
  iapply HQ
  isplitl [HO]; · iexact HO
  isplitl [Hy1 Hy0 Hz1 Hz0]
  · isplitl [Hy1 Hy0]
    · isplitl [Hy1] <;> iassumption
    · isplitl [Hz1] <;> iassumption
  isplitl [Hk1 Hk0]
  · isplitl [Hk1]
    · iapply (slotIn_some m ρ c true); iexact Hk1
    · iapply (slotIn_some m ρ c false); iexact Hk0
  isplitl [He1 He0]
  · isplitl [He1] <;> iassumption
  isplitl [Hx] <;> iassumption

/-- The body: from the input block and any output buffer to the input block and the stencil. -/
theorem run_body (W : Waits sig Unit) (f : (cc0_stg1_0 : Ref sig .tc).ty.Contents (Elt F)) (Q : PUnit → sProp 𝕄) :
    iprop((ghost m ρ K c ∗ credits c ∗ levAts L lv ∗ landing c ∗ owes (c : Thread nD τ) (O₀ c) W
          ∗ (((c : Thread nD τ).loc cc0_stg0_0) ↦{fullShare} xstg m ρ c) ∗ oPts c f)
        ∗ ((Φ₁ (F := F) c ∗ (∃ W', owes (c : Thread nD τ) 0 W') ∗ (((c : Thread nD τ).loc cc0_stg0_0) ↦{fullShare} xstg m ρ c)
            ∗ oPts c (outAt m ρ c)) -∗ Q ⟨⟩))
      ⊢ wpc c (cc0_body (F := F) xM (Memref.isWhole_whole _) oM (Memref.isWhole_whole _) kM (Memref.isWhole_whole _) cc0_scratch1 cc0_scratch2) Q := by
  rw [cc0_body_eq_skeleton, body_eq]
  unfold wpc
  rw [wp_deviceId]
  iintro ⟨⟨Hg, Hc, Hl, Hk, HO, Hx, Ho⟩, HQ⟩
  unfold ghost
  icases Hg with ⟨⟨#HB, #HI1, #HI0⟩, Hg⟩
  ihave Hk := (slots_split (F := F) c) $$ Hk
  icases Hk with ⟨Hk1, Hk0⟩
  ihave Hx := (x_split m ρ c).1 $$ Hx
  icases Hx with ⟨⟨He1, He0, Hr⟩, Hx⟩
  iapply (wpc_bind c (first c) _ Q)
  iapply (run_first m ρ K c W f _)
  isplitr [HQ Hr]
  · isplitl [Hg]
    · unfold ghost
      isplitr
      · isplitr; · iexact HB
        isplitr; · iexact HI1
        iexact HI0
      · iexact Hg
    isplitl [Hc]; · iexact Hc
    isplitl [Hl]; · iexact Hl
    isplitl [Hk1]; · iexact Hk1
    isplitl [Hk0]; · iexact Hk0
    isplitl [He1]; · iexact He1
    isplitl [He0]; · iexact He0
    isplitl [HO]; · iexact HO
    isplitl [Hx] <;> iassumption
  iintro ⟨⟨%W1, HO⟩, HzB, H1, H0, Hx, Ho⟩
  iapply (run_second m ρ K c W1 _ Q)
  isplitr [HQ Hr HzB]
  · isplitr; · iexact HI1
    isplitr; · iexact HI0
    isplitl [H1]; · iexact H1
    isplitl [H0]; · iexact H0
    isplitl [HO]; · iexact HO
    isplitl [Hx] <;> iassumption
  rw [out_eq]
  iintro ⟨HO, Hz, Hk, ⟨He1, He0⟩, Hx, Ho⟩
  iapply HQ
  unfold Φ₁ zeros
  isplitl [Hk HzB Hz]
  · isplitl [Hk]; · iapply (slots_join (F := F) c); iexact Hk
    isplitl [HzB] <;> iassumption
  isplitl [HO]; · iexact HO
  isplitl [Hx He1 He0 Hr]
  · iapply (x_split m ρ c).2
    isplitr [Hx]
    · isplitl [He1]; · iexact He1
      isplitl [He0] <;> iassumption
    · iexact Hx
  iexact Ho

end Run

end Cert.SyncedProof

end
-- ==== Proof.Launch.lean ====
/-
  The launch: the body on every device as the pipeline calls it, the bookkeeping of the exchange dealt to the devices,
  and the run of the whole program.
-/
module

public import proofs.«01_k».proof.Proof.Body
public import Idealize.ShloMosaic.Lib.Pipeline.CollectiveSegs

@[expose] public section

noncomputable section

namespace Cert.SyncedProof

open Cert.SyncedIdeal Cert.SyncedIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The body as the pipeline calls it -/

/-- A staging buffer holding `X`. -/
abbrev staged (c : Dev nD) (b : Ref sig .tc) (X : b.ty.Contents (Elt F)) : sProp 𝕄 :=
  iprop(∃ f : Buf (Elt F) ((c : Thread nD τ).loc b), ⌜f = X⌝ ∗ ((c : Thread nD τ).loc b) ↦{fullShare} f)

omit [FloatOps F] in
theorem owns_staged (c : Dev nD) (b : Ref sig .tc) (X : b.ty.Contents (Elt F)) :
    (owns (Ix := Unit) (Name := ℕ) (U := UU) (Lvl := ℕ) (c : Thread nD τ) (Memref.whole b) fullShare X : sProp 𝕄) = staged c b X := by
  unfold owns; simp only [Memref.view_whole, View.read_whole, View.set_whole]

def Pre (c : Dev nD) : sProp 𝕄 :=
  iprop(Φ₀ m ρ c ∗ (dats m ρ 0 c).owesAt () t0_0.castSucc
    ∗ (∃ d, staged c cc0_stg0_0 ((dats m ρ 0 c).before (0 : Fin 2) t0_0 d)) ∗ ∃ d, staged c cc0_stg1_0 ((dats m ρ 0 c).before (1 : Fin 2) t0_0 d))
def Post (c : Dev nD) : sProp 𝕄 :=
  iprop(Φ₁ (F := F) c ∗ (dats m ρ 0 c).owesAt () t0_0.succ ∗ staged c cc0_stg0_0 (xstg m ρ c) ∗ staged c cc0_stg1_0 (outAt m ρ c))

/-- What the input window's staging buffer holds before the body: the device's block. -/
theorem before_x (c : Dev nD) (d) : (dats m ρ 0 c).before (0 : Fin 2) t0_0 d = xstg m ρ c := by
  unfold Dat.before
  rw [if_pos (fetch0_0 t0_0)]
  rfl

theorem pre_post (c : Dev nD) :
    Pre m ρ c ⊢ wpc c (cc0_body (F := F) xM (Memref.isWhole_whole _) oM (Memref.isWhole_whole _) kM (Memref.isWhole_whole _) cc0_scratch1 cc0_scratch2)
      (fun _ => Post m ρ c) := by
  unfold Pre Φ₀ start
  iintro ⟨⟨⟨⟨%K, Hg⟩, Hc, Hl⟩, Hk⟩, Ho, ⟨%d0, %g0, %h0, Hx⟩, ⟨%d1, %g1, -, Hout⟩⟩
  rw [before_x] at h0
  subst h0
  unfold Dat.owesAt Pipeline.owesWithin
  icases Ho with ⟨%W, -, HO⟩
  iapply (run_body m ρ K c W g1 _)
  isplitl [Hg Hc Hl Hk HO Hx Hout]
  · isplitl [Hg]; · iexact Hg
    isplitl [Hc]; · iexact Hc
    isplitl [Hl]; · iexact Hl
    isplitl [Hk]; · iexact Hk
    isplitl [HO]; · iexact HO
    isplitl [Hx]; · iexact Hx
    unfold oPts; iexact Hout
  iintro ⟨HΦ, ⟨%W', HO⟩, Hx, Hout⟩
  unfold Post oPts Dat.owesAt Pipeline.owesWithin
  isplitl [HΦ]; · iexact HΦ
  isplitl [HO]
  · iexists W'
    isplitr; · ipureintro; exact fun _ _ => .inl trivial
    iexact HO
  isplitl [Hx]
  · iexists _; isplitr; · (ipureintro; rfl)
    iexact Hx
  · iexists _; isplitr; · (ipureintro; rfl)
    iexact Hout

set_option maxRecDepth 4000 in
/-- The body does on device `c` what the pipeline asks of it. -/
theorem obligation (c : Dev nD) : BodyObligation (dats (F := F) m ρ 0 c) (defs₀ (F := F)) 𝒱₀ () Set.univ := fun t => by
  rw [fin_N0 t, bigSep_W0, bigSep_W0]
  simp only [owns_staged]
  exact pre_post m ρ c

/-! ## Cells and tokens at the start -/

theorem cell_inj : Function.Injective (fun e : Dev nD × Role => cell e.1 e.2) := by
  rintro ⟨c, k⟩ ⟨c', k'⟩ h
  have h1 : c = c' := congrArg (fun g : GSem nD τ sig => g.1.1) h
  have h2 : k = k' := semOf_inj (congrArg Prod.snd h)
  rw [h1, h2]

/-- Every device's five counters. -/
def allCells : Finset (GSem nD τ sig) := Finset.univ.map ⟨fun e : Dev nD × Role => cell e.1 e.2, cell_inj⟩

/-- Which counter of a side: the barrier's (0), the send's (1), the receive's (2). -/
abbrev roleAt (b : Bool) : Fin 3 → Role
  | 0 => none
  | 1 => some (false, b)
  | 2 => some (true, b)

/-- The unit named for side `b` at each of the three. -/
abbrev tokAt (e : (Dev nD × Bool) × Fin 3) : GSem nD τ sig × ℕ × Bool := (cell e.1.1 (roleAt e.1.2 e.2), 0, e.1.2)

theorem tokAt_inj : Function.Injective tokAt := by
  rintro ⟨⟨c, b⟩, j⟩ ⟨⟨c', b'⟩, j'⟩ h
  have hb : b = b' := congrArg (fun x : GSem nD τ sig × ℕ × Bool => x.2.2) h
  have hg : cell c (roleAt b j) = cell c' (roleAt b' j') := congrArg Prod.fst h
  subst hb
  have h2 := cell_inj (a₁ := (c, roleAt b j)) (a₂ := (c', roleAt b j')) hg
  have hc : c = c' := congrArg Prod.fst h2
  have hr : roleAt b j = roleAt b j' := congrArg Prod.snd h2
  have hj : j = j' := (by decide : ∀ (b : Bool) (j j' : Fin 3), roleAt b j = roleAt b j' → j = j') b j j' hr
  rw [hc, hj]

def allToks : Finset (GSem nD τ sig × ℕ × Bool) := Finset.univ.map ⟨tokAt, tokAt_inj⟩

/-- The ghost state the launch starts from. -/
def u₀ : UU := (initOf (Pipeline.cells cfgs cellOf_inj) (Pipeline.launchToks cfgs cellOf_inj), initOf allCells allToks)

/-- The three units named for a side, as they start: with the device whose counters they raise. -/
def ownToks (c : Dev nD) (b : Bool) : sProp 𝕄 :=
  iprop(dutyTok ER (barC c) 0 b ∗ dutyTok ER (sC c b) 0 b ∗ dutyTok ER (vC c b) 0 b)
/-- And as they are used: the two of the neighbour's counters across the link. -/
def useToks (c : Dev nD) (b : Bool) : sProp 𝕄 :=
  iprop(dutyTok ER (barC (nb b c)) 0 (!b) ∗ dutyTok ER (sC c b) 0 b ∗ dutyTok ER (vC (nb b c) (!b)) 0 (!b))

/-- What the launch gives device `c` of the exchange's bookkeeping. -/
def G (c : Dev nD) : sProp 𝕄 :=
  iprop((bigSep Finset.univ fun k : Role => roundState ER (sched m ρ) (cell c k) 0)
    ∗ (bigSep Finset.univ fun k : Role => iprop(atPos ER (cell c k) 0 ∅ 0 ∗ reached ER (cell c k) 0)) ∗ bigSep Finset.univ fun b : Bool => ownToks c b)

omit [FloatOps F] in
theorem bigSep_roles (Φ : Role → sProp 𝕄) :
    bigSep Finset.univ Φ = iprop(Φ none ∗ Φ (some (false, true)) ∗ Φ (some (false, false)) ∗ Φ (some (true, true)) ∗ Φ (some (true, false))) :=
  bigSep_univ_eq_bigSepL [none, some (false, true), some (false, false), some (true, true), some (true, false)] (by decide) (by decide) Φ
omit [FloatOps F] in
theorem bigSep_bool (Φ : Bool → sProp 𝕄) : bigSep Finset.univ Φ = iprop(Φ true ∗ Φ false) :=
  bigSep_univ_eq_bigSepL [true, false] (by decide) (by decide) Φ
omit [FloatOps F] in
theorem bigSep_three (Φ : Fin 3 → sProp 𝕄) : bigSep Finset.univ Φ = iprop(Φ 0 ∗ Φ 1 ∗ Φ 2) :=
  bigSep_univ_eq_bigSepL [0, 1, 2] (by decide) (by decide) Φ

/-- The bookkeeping minted at the start, dealt to the devices. -/
theorem deal : BI.own (ER (initOf allCells allToks)) ⊢ (|==> bigSep Finset.univ (G m ρ) : sProp 𝕄) := by
  have hC (Φ : GSem nD τ sig → sProp 𝕄) : bigSep allCells Φ = bigSep Finset.univ fun c : Dev nD => bigSep Finset.univ fun k : Role => Φ (cell c k) := by
    unfold allCells
    rw [bigSep_map, bigSep_univ_prod]
    rfl
  have hT : bigSep allToks (fun x => (dutyTok ER x.1 x.2.1 x.2.2 : sProp 𝕄)) = bigSep Finset.univ fun c : Dev nD => bigSep Finset.univ fun b : Bool => ownToks c b := by
    unfold allToks
    rw [bigSep_map, bigSep_univ_prod, bigSep_univ_prod]
    refine bigSep_congr fun c _ => bigSep_congr fun b _ => ?_
    rw [bigSep_three]
    rfl
  iintro H
  imod (Rounds.fund ER (sched m ρ) allCells allToks) $$ H with ⟨Hst, Hr, Hat, Htok⟩
  imodintro
  ihave Hst := (Entails.of_eq (hC fun g => roundState ER (sched m ρ) g 0)) $$ Hst
  ihave Hat := (Entails.of_eq (hC fun g => atPos ER g 0 ∅ 0)) $$ Hat
  ihave Hr := (Entails.of_eq (hC fun g => reached ER g 0)) $$ Hr
  ihave Htok := (Entails.of_eq hT) $$ Htok
  unfold G
  simp only [bigSep_sep']
  isplitl [Hst]; · iexact Hst
  isplitl [Hat Hr]
  · isplitl [Hat] <;> iassumption
  iexact Htok

/-! ## The counters' invariants -/

/-- The kernel's own scoped counters. -/
def osem : Fin 4 → SemLoc sig
  | 0 => semOf (some (false, true))
  | 1 => semOf (some (false, false))
  | 2 => semOf (some (true, true))
  | 3 => semOf (some (true, false))

theorem ownSemFacts : Pipeline.OwnSemFacts cfg0.spec osem := by decide

omit [FloatOps F] in
theorem ownSems_eq (c : Dev nD) : (Pipeline.ownSems0 (Ix := Unit) (Name := ℕ) (U := UU) (Lvl := ℕ) (Val := Elt F) (τ := τ) osem c : sProp 𝕄)
    = iprop(semVal (sC c true) 0 ∗ semVal (sC c false) 0 ∗ semVal (vC c true) 0 ∗ semVal (vC c false) 0) := by
  rw [Pipeline.ownSems0_eq_of_list c osem [0, 1, 2, 3] (by decide) (by decide)]; rfl
omit [FloatOps F] in
theorem unscoped_eq (c : Dev nD) : (unscopedSems0 c : sProp 𝕄) = semVal (barC c) 0 := by
  unfold unscopedSems0; rw [bigSep_eq_bigSepL_of_eq [SemLoc.reg barS] (by decide) (by decide)]; rfl

/-- The five counters at zero are the device's own scoped ones and the barrier's. -/
theorem zeros_iff (c : Dev nD) : (zeros c : sProp 𝕄) ⊣⊢ iprop(unscopedSems0 c ∗ Pipeline.ownSems0 (Ix := Unit) (Name := ℕ) (U := UU) (Lvl := ℕ) (Val := Elt F) (τ := τ) osem c) := by
  rw [ownSems_eq, unscoped_eq]
  unfold zeros
  exact sep_congr_right sep_assoc

theorem zeros_roles (c : Dev nD) : (zeros c : sProp 𝕄) ⊢ bigSep Finset.univ fun k : Role => semVal (cell c k) 0 := by
  rw [bigSep_roles]
  unfold zeros
  exact sep_mono_right sep_assoc.1

/-- On each device the five invariants are made. -/
theorem make_inv (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Role => iprop(∃ κ : ℕ, cellInv ER (sched m ρ) κ (cell c k)))
          ∗ (bigSep Finset.univ fun k : Role => iprop(atPos ER (cell c k) 0 ∅ 0 ∗ reached ER (cell c k) 0)) ∗ bigSep Finset.univ fun b : Bool => ownToks c b) := by
  have hmk : iprop((bigSep Finset.univ fun k : Role => semVal (cell c k) 0) ∗ bigSep Finset.univ fun k : Role => roundState ER (sched m ρ) (cell c k) 0)
      ⊢ (|={Set.univ}=> bigSep Finset.univ fun k : Role => iprop(∃ κ : ℕ, cellInv ER (sched m ρ) κ (cell c k)) : sProp 𝕄) := by
    rw [← bigSep_sep']
    exact (bigSep_mono fun k _ => (Rounds.body_intro ER (sched m ρ) (cell c k)).trans inv_alloc).trans (bigSep_fupd _ _)
  unfold G
  iintro ⟨Hs, Hu, Hst, Hrest⟩
  imod hmk $$ [Hs Hu Hst] with HI
  · isplitr [Hst]
    · iapply (zeros_roles (F := F) c)
      iapply (zeros_iff (F := F) c).2
      isplitl [Hu] <;> iassumption
    · iexact Hst
  imodintro
  isplitl [HI]; · iexact HI
  iexact Hrest

/-- The invariants and marks of every counter. -/
def known (K : Dev nD × Role → ℕ) : sProp 𝕄 :=
  iprop((bigSep Finset.univ fun e : Dev nD × Role => inv m ρ K e.1 e.2) ∗ bigSep Finset.univ fun e : Dev nD × Role => reached ER (cell e.1 e.2) 0)

instance known_persistent (K : Dev nD × Role → ℕ) : BI.Persistent (known m ρ K) := by unfold known; infer_instance

theorem known_inv (K : Dev nD × Role → ℕ) (c : Dev nD) (k : Role) : known m ρ K ⊢ inv m ρ K c k := by
  have h : (bigSep Finset.univ fun e : Dev nD × Role => inv m ρ K e.1 e.2) ⊢ inv m ρ K c k := bigSep_elim (Finset.mem_univ (c, k))
  unfold known
  iintro ⟨H, -⟩
  iapply h
  iexact H
theorem known_reached (K : Dev nD × Role → ℕ) (c : Dev nD) (k : Role) : known m ρ K ⊢ reached ER (cell c k) 0 := by
  have h : (bigSep Finset.univ fun e : Dev nD × Role => (reached ER (cell e.1 e.2) 0 : sProp 𝕄)) ⊢ reached ER (cell c k) 0 := bigSep_elim (Finset.mem_univ (c, k))
  unfold known
  iintro ⟨-, H⟩
  iapply h
  iexact H

theorem known_side (K : Dev nD × Role → ℕ) (c : Dev nD) (b : Bool) : known m ρ K ⊢ sideInv m ρ K c b := by
  unfold sideInv
  iintro #H
  isplitr; · iapply (known_inv m ρ K c _); iexact H
  isplitr; · iapply (known_inv m ρ K c _); iexact H
  isplitr; · iapply (known_inv m ρ K (nb b c) _); iexact H
  isplitr; · iapply (known_inv m ρ K (nb b c) _); iexact H
  isplitr; · iapply (known_reached m ρ K (nb b c) _); iexact H
  isplitr; · iapply (known_reached m ρ K c _); iexact H
  iapply (known_reached m ρ K (nb b c) _); iexact H

/-- What stays with device `c` alone: where it stands at its five counters, and the units it will raise. -/
def alone (c : Dev nD) : sProp 𝕄 :=
  iprop((bigSep Finset.univ fun k : Role => atPos ER (cell c k) 0 ∅ 0) ∗ bigSep Finset.univ fun b : Bool => useToks c b)

theorem ghost_of (K : Dev nD × Role → ℕ) (c : Dev nD) : iprop(known m ρ K ∗ alone c) ⊢ iprop(∃ K, ghost m ρ K c) := by
  unfold alone ghost sideHold
  rw [bigSep_roles, bigSep_bool]
  unfold useToks
  iintro ⟨#HK, ⟨HaB, HaS1, HaS0, HaV1, HaV0⟩, ⟨H1, H2, H3⟩, ⟨H4, H5, H6⟩⟩
  iexists K
  isplitr
  · isplitr; · iapply (known_inv m ρ K c _); iexact HK
    isplitr
    · iapply (known_side m ρ K c true); iexact HK
    · iapply (known_side m ρ K c false); iexact HK
  isplitl [HaB]; · iexact HaB
  isplitl [HaS1 HaV1 H1 H2 H3]
  · isplitl [HaS1]; · iexact HaS1
    isplitl [HaV1]; · iexact HaV1
    isplitl [H1]; · iexact H1
    isplitl [H2] <;> iassumption
  · isplitl [HaS0]; · iexact HaS0
    isplitl [HaV0]; · iexact HaV0
    isplitl [H4]; · iexact H4
    isplitl [H5] <;> iassumption

/-- The units change hands across every link at once. -/
theorem hand_over : (bigSep Finset.univ fun c : Dev nD => bigSep Finset.univ fun b : Bool => ownToks c b : sProp 𝕄)
    ⊢ bigSep Finset.univ fun c : Dev nD => bigSep Finset.univ fun b : Bool => useToks c b := by
  rw [← bigSep_univ_prod (fun e : Dev nD × Bool => (ownToks e.1 e.2 : sProp 𝕄)), ← bigSep_univ_prod (fun e : Dev nD × Bool => (useToks e.1 e.2 : sProp 𝕄))]
  unfold ownToks useToks
  rw [bigSep_sep', bigSep_sep', bigSep_sep', bigSep_sep',
    bigSep_univ_equiv cross (fun e : Dev nD × Bool => (dutyTok ER (barC e.1) 0 e.2 : sProp 𝕄)),
    bigSep_univ_equiv cross (fun e : Dev nD × Bool => (dutyTok ER (vC e.1 e.2) 0 e.2 : sProp 𝕄))]
  exact .rfl

/-- A persistent fact goes to every part. -/
theorem to_each {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  refine (sep_mono_left (BI.bigSep_of_persistent S R)).trans ?_
  rw [← bigSep_sep']
  exact bigSep_mono h

/-- The invariants become known to all, the units are handed over. -/
theorem share_out :
    (bigSep Finset.univ fun c : Dev nD => iprop((bigSep Finset.univ fun k : Role => iprop(∃ κ : ℕ, cellInv ER (sched m ρ) κ (cell c k)))
          ∗ (bigSep Finset.univ fun k : Role => iprop(atPos ER (cell c k) 0 ∅ 0 ∗ reached ER (cell c k) 0)) ∗ bigSep Finset.univ fun b : Bool => ownToks c b) : sProp 𝕄)
      ⊢ bigSep Finset.univ fun c => iprop(∃ K, ghost m ρ K c) := by
  have hsplit (c : Dev nD) := bigSep_sep' (Finset.univ : Finset Role) (fun k => (atPos ER (cell c k) 0 ∅ 0 : sProp 𝕄)) (fun k => reached ER (cell c k) 0)
  simp only [hsplit]
  rw [bigSep_sep', bigSep_sep', bigSep_sep', ← bigSep_univ_prod (fun e : Dev nD × Role => iprop(∃ κ : ℕ, cellInv ER (sched (F := F) m ρ) κ (cell e.1 e.2))),
    ← bigSep_univ_prod (fun e : Dev nD × Role => (reached ER (cell e.1 e.2) 0 : sProp 𝕄))]
  iintro ⟨HI, ⟨Hat, #HR⟩, Htok⟩
  ihave HK := (BI.bigSep_exists_pi Finset.univ (fun (e : Dev nD × Role) (κ : ℕ) => (cellInv ER (sched (F := F) m ρ) κ (cell e.1 e.2) : sProp 𝕄))) $$ HI
  icases HK with ⟨%K, #HI⟩
  ihave Htok := (hand_over (F := F)) $$ Htok
  iapply (to_each (R := known m ρ K) (Φ := alone) fun c _ => ghost_of m ρ K c)
  isplitr
  · unfold known
    isplitl
    · iexact HI
    · iexact HR
  · unfold alone
    rw [bigSep_sep']
    isplitl [Hat] <;> iassumption

/-- Before the devices start: the invariants made and shared, the units handed over. -/
theorem prepare :
    (bigSep Finset.univ fun c => iprop(Pipeline.ownSems0 (Ix := Unit) (Name := ℕ) (U := UU) (Lvl := ℕ) (Val := Elt F) (τ := τ) osem c ∗ unscopedSems0 c ∗ G m ρ c) : sProp 𝕄)
      ⊢ |={Set.univ}=> bigSep Finset.univ fun c => iprop(∃ K, ghost m ρ K c) := by
  refine ((bigSep_mono fun c _ => make_inv m ρ c).trans (bigSep_fupd _ _)).trans (BI.fupd_mono (share_out m ρ))

/-! ## The credits at the start -/

omit [FloatOps F] in
theorem owedSig_at (d c : Dev nD) (b : Bool) : owedSig d b (barC c) () = if nb (!b) c = d then (if Has (!b) c then 1 else 0) else 0 := by
  have key : (barC c = barC (nb b d)) ↔ nb (!b) c = d := by
    refine ⟨fun h => ?_, fun h => ?_⟩
    · have e : c = nb b d := congrArg (fun g : GSem nD τ sig => g.1.1) h
      rw [e, nb_back]
    · rw [← h]; have e := nb_back (!b) c; rw [Bool.not_not] at e; rw [e]
  unfold owedSig
  by_cases h : nb (!b) c = d
  · have e : Has (!b) c ↔ Has b d := by rw [← h]; have := has_nb (!b) c; rw [Bool.not_not] at this; exact this.symm
    rw [if_pos h]
    by_cases hd : Has b d
    · rw [if_pos hd, if_pos (e.mpr hd), tallyAt_apply, if_pos ⟨key.mpr h, rfl⟩]
    · rw [if_neg hd, if_neg (fun h' => hd (e.mp h'))]; rfl
  · rw [if_neg h]
    split
    · rw [tallyAt_apply, if_neg fun h' => h (key.mp h'.1)]
    · rfl

omit [FloatOps F] in
theorem owedRow_at (d c : Dev nD) (b b' : Bool) :
    owedRow d b (vC c b') () = if b' = !b then (if nb b' c = d then (if Has b' c then N else 0) else 0) else 0 := by
  have key : (vC c b' = vC (nb b d) (!b)) ↔ b' = !b ∧ nb b' c = d := by
    refine ⟨fun h => ?_, fun ⟨h1, h2⟩ => ?_⟩
    · have e : c = nb b d := congrArg (fun g : GSem nD τ sig => g.1.1) h
      have hb : b' = !b := by have := semOf_inj (a₁ := some (true, b')) (a₂ := some (true, !b)) (congrArg Prod.snd h); simp only [Option.some.injEq, Prod.mk.injEq] at this; exact this.2
      refine ⟨hb, ?_⟩
      rw [hb, e, nb_back]
    · subst h1; rw [← h2]; have e := nb_back (!b) c; rw [Bool.not_not] at e; rw [e]
  unfold owedRow
  by_cases hb : b' = !b
  · rw [if_pos hb]
    by_cases h : nb b' c = d
    · have e : Has b' c ↔ Has b d := by rw [hb] at h ⊢; rw [← h]; have := has_nb (!b) c; rw [Bool.not_not] at this; exact this.symm
      rw [if_pos h]
      by_cases hd : Has b d
      · rw [if_pos hd, if_pos (e.mpr hd), tallyAt_apply, if_pos ⟨key.mpr ⟨hb, h⟩, rfl⟩]
      · rw [if_neg hd, if_neg (fun h' => hd (e.mp h'))]; rfl
    · rw [if_neg h]
      split
      · rw [tallyAt_apply, if_neg fun h' => h (key.mp h'.1).2]
      · rfl
  · rw [if_neg hb]
    split
    · rw [tallyAt_apply, if_neg fun h' => hb (key.mp h'.1).1]
    · rfl

omit [FloatOps F] in
theorem owedSig_recv (d c : Dev nD) (b b' : Bool) : owedSig d b (vC c b') () = 0 := by
  by_contra h
  have e := congrArg Prod.snd (owedSig_pos (u := ()) (Nat.pos_of_ne_zero h))
  exact absurd (semOf_inj (a₁ := some (true, b')) (a₂ := none) e) (by simp)
omit [FloatOps F] in
theorem owedRow_bar (d c : Dev nD) (b : Bool) : owedRow d b (barC c) () = 0 := by
  by_contra h
  have e := congrArg Prod.snd (owedRow_pos (u := ()) (Nat.pos_of_ne_zero h))
  exact absurd (semOf_inj (a₁ := none) (a₂ := some (true, !b)) e) (by simp)

omit [FloatOps F] in
theorem O₀_at (d : Dev nD) (g : GSem nD τ sig) :
    O₀ d g () = 0 + owedRow d false g () + owedRow d true g () + owedSig d false g () + owedSig d true g () := rfl

omit [FloatOps F] in
/-- All the devices together owe device `c`'s barrier counter a unit for each neighbour it has; -/
theorem credit_bar (c : Dev nD) :
    tallyOn (barC c) (launchCredit (Pipeline.owing O₀) 0 (barC c)) = (tallyAt (barC c) () (degree c) : CellTallies nD τ sig Unit) := by
  unfold tallyAt
  refine congrArg _ (Finsupp.ext fun u => ?_)
  cases u
  rw [Pipeline.launchCredit_owing, Finsupp.single_eq_same]
  have h (d : Dev nD) : O₀ d (barC c) () = (if nb true c = d then (if Has true c then 1 else 0) else 0) + (if nb false c = d then (if Has false c then 1 else 0) else 0) := by
    rw [O₀_at, owedRow_bar, owedRow_bar, owedSig_at, owedSig_at, Bool.not_false, Bool.not_true]
    omega
  rw [Finset.sum_congr rfl fun d _ => h d, Finset.sum_add_distrib, Finset.sum_ite_eq, Finset.sum_ite_eq, if_pos (Finset.mem_univ _), if_pos (Finset.mem_univ _)]
  rfl

omit [FloatOps F] in
/-- and each of its receive counters a row's credit, where there is a neighbour. -/
theorem credit_recv (c : Dev nD) (b : Bool) :
    tallyOn (vC c b) (launchCredit (Pipeline.owing O₀) 0 (vC c b)) = (if Has b c then tallyAt (vC c b) () N else tallyAt (vC c b) () 0 : CellTallies nD τ sig Unit) := by
  rw [show (if Has b c then tallyAt (vC c b) () N else tallyAt (vC c b) () 0 : CellTallies nD τ sig Unit) = tallyAt (vC c b) () (if Has b c then N else 0) from by split <;> rfl]
  unfold tallyAt
  refine congrArg _ (Finsupp.ext fun u => ?_)
  cases u
  rw [Pipeline.launchCredit_owing, Finsupp.single_eq_same]
  have h (d : Dev nD) : O₀ d (vC c b) () = if nb b c = d then (if Has b c then N else 0) else 0 := by
    rw [O₀_at, owedSig_recv, owedSig_recv, owedRow_at, owedRow_at, Bool.not_false, Bool.not_true]
    cases b
    · rw [if_neg (show ¬ (false = true) by decide), if_pos rfl]; omega
    · rw [if_pos rfl, if_neg (show ¬ (true = false) by decide)]; omega
  rw [Finset.sum_congr rfl fun d _ => h d, Finset.sum_ite_eq, if_pos (Finset.mem_univ _)]

theorem owedIn_of (c : Dev nD) (b : Bool) :
    (cred (tallyOn (vC c b) (launchCredit (Pipeline.owing O₀) 0 (vC c b))) : sProp 𝕄) ⊢ owedIn c b := by
  rw [credit_recv]
  unfold owedIn
  split
  · exact .rfl
  · iintro -; iempintro

/-- The credits of the launch are those the body needs. -/
theorem credits_of (c : Dev nD) : (Pipeline.launchCred O₀ c : sProp 𝕄) ⊢ credits c := by
  unfold Pipeline.launchCred credits
  rw [bigSep_univ_at _ (semOf none), credit_bar]
  refine sep_mono_right ?_
  have ht : semOf (some (true, true)) ∈ Finset.univ.erase (semOf none) :=
    Finset.mem_erase.mpr ⟨fun h => absurd (semOf_inj h) (by simp), Finset.mem_univ _⟩
  have hf : semOf (some (true, false)) ∈ (Finset.univ.erase (semOf none)).erase (semOf (some (true, true))) :=
    Finset.mem_erase.mpr ⟨fun h => absurd (semOf_inj h) (by simp),
      Finset.mem_erase.mpr ⟨fun h => absurd (semOf_inj h) (by simp), Finset.mem_univ _⟩⟩
  rw [BI.bigSep_erase ht]
  exact BI.sep_mono (owedIn_of c true) ((bigSep_elim hf).trans (owedIn_of c false))

/-! ## The run -/

theorem share_full (c : Dev nD) (w : Fin cfg0.W) : (dats m ρ 0 c).share w = fullShare := by unfold Dat.share; split <;> rfl

theorem start_of (c : Dev nD) :
    iprop(Pipeline.unscopedRestP Pipeline.Prefetch.none cfg0.spec c (fun b => m ((c : Thread nD τ).loc b)) ∗ levAts L lv
        ∗ Pipeline.launchCred O₀ c ∗ prngReg c (ρ c) ∗ (∃ K, ghost m ρ K c))
      ⊢ |={Set.univ}=> iprop(start m ρ c ∗ emp) := by
  unfold start
  iintro ⟨-, Hl, Hc, -, Hg⟩
  imodintro
  isplitl
  · isplitl [Hg]; · iexact Hg
    isplitl [Hc]
    · iapply (credits_of (F := F) c); iexact Hc
    · iexact Hl
  · iempintro

theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ landing
  iintro ⟨Hs, -, Hr⟩
  isplitl [Hs]; · iexact Hs
  iexact Hr

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq]
  unfold Φ₁ landing
  iintro ⟨Hr, Hz⟩
  ihave Hz := (zeros_iff (F := F) c).1 $$ Hz
  icases Hz with ⟨Hu, Hs⟩
  isplitl [Hu]; · iexact Hu
  isplitl [Hs]; · iexact Hs
  iexact Hr

theorem stage_waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact .inl rfl
      · exact .inr rfl)

/-- What the arrays hold after the run. -/
def endArr (c : Dev nD) (w : Fin cfg0.W) : Buf (Elt F) ((cfg0.win w).arr.view.loc (c : Thread nD τ)) := (dats m ρ 0 c).arrAt w cfg0.N

set_option maxRecDepth 8000 in
/-- From any memory, every counter at zero, every weakly fair execution of the program on the sixteen devices ends, with
    each device's arrays at `endArr` and every counter at zero again. -/
theorem run_main : θ_run defs (onTc (τ := τ) (main (F := F))) (s₀ m ρ)
    (fun r => (∀ (c : Dev nD) (w : Fin cfg0.W), r.2.mem ((cfg0.win w).arr.view.loc (c : Thread nD τ)) = endArr m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := obligation m ρ) (hne := block_pos0) (harr := arr_whole0) (hstage := stage_whole0) (hshare := share_full m ρ)
    (hdistinct := winFacts0.arr_inj)
    (O₀ := O₀) (howed₀ := fun _ => rfl) (howedN := fun _ => rfl)
    (L := L) (lv := lv) (hL := L_of_ne) (hwaits := stage_waits m ρ)
    (G := G m ρ) (G' := fun c => iprop(∃ K, ghost m ρ K c)) (u₀ := u₀)
    (hu₀ := by
      unfold u₀
      iintro Hu
      ihave H := (ownU_pair _ _) $$ Hu
      icases H with ⟨HP, HX⟩
      imod (deal m ρ) $$ HX with HG
      imodintro
      isplitl [HP] <;> iassumption)
    (hglob := prepare m ρ)
    (hA := fun _ _ => rfl) (hpf := fun _ k => k.elim0)
    (X := start m ρ) (Y := fun c => unscopedSems0 c) (Z := fun _ => iprop(emp))
    (hX := start_of m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input array after the run is as it was. -/
theorem endArr_x (c : Dev nD) : endArr m ρ c (0 : Fin 2) = m ((c : Thread nD τ).loc main_arg0) :=
  (dats (F := F) m ρ 0 c).arrAt_in (0 : Fin 2) rfl _

end Cert.SyncedProof

end
-- ==== Proof.Reference.lean ====
/-
  What the reference computes, element by element: the first and the last row as they are, every other row a quarter
  of the row above, half of itself and a quarter of the row below.
-/
module

public import proofs.«01_k».proof.Proof.Local
public import proofs.«01_k».proof.Proof.Gen.ReferenceIdeal.Run
public import Idealize.ShloMosaic.Lib.Pipeline.Value

@[expose] public section

noncomputable section

namespace Cert.SyncedProof.Whole

open Cert.ReferenceIdeal Cert.ReferenceIdeal.Gen
open Idealize.ShloMosaic Idealize.ShloMosaic.TcCoe Idealize.SL.Sem
open Cert.SyncedProof (comb)

variable {F : FTy → Type} [FloatOps F]

/-- Row `r`, column `j` of the whole array. -/
def gix (r : ℕ) (hr : r < 32768) (j : Fin 1024) : S32768x1024.Idx := fun
  | ⟨0, _⟩ => (⟨r, hr⟩ : Fin 32768)
  | ⟨1, _⟩ => j

theorem gix_eta (i : S32768x1024.Idx) : i = gix (i 0).val (i 0).isLt (i 1) := by
  funext a
  fin_cases a <;> rfl

theorem gix_congr {r r' : ℕ} (h : r = r') (hr : r < 32768) (hr' : r' < 32768) (j : Fin 1024) : gix r hr j = gix r' hr' j := by
  subst h; rfl

/-- Row `r`, column `j` of the rows that are combined. -/
def inner (r : ℕ) (hr : r < 32766) (j : Fin 1024) : S32766x1024.Idx := fun
  | ⟨0, _⟩ => (⟨r, hr⟩ : Fin 32766)
  | ⟨1, _⟩ => j

/-- Column `j` of a single row. -/
def line (j : Fin 1024) : S1x1024.Idx := fun
  | ⟨0, _⟩ => (⟨0, by decide⟩ : Fin 1)
  | ⟨1, _⟩ => j

/-- The rows between the first and the last. -/
def innerOut (x : FVec F S32768x1024 .f32) : FVec F S32766x1024 .f32 :=
  addf (addf (mulf (broadcastInDim S32766x1024 ![] bcast_S_S32766x1024 (constant S_ .f32 0x3E800000#32)) (extractStridedSlice S32766x1024 ![0, 0] x slices_S32768x1024_S32766x1024_0_0))
      (mulf (broadcastInDim S32766x1024 ![] bcast_S_S32766x1024 (constant S_ .f32 0x3F000000#32)) (extractStridedSlice S32766x1024 ![1, 0] x slices_S32768x1024_S32766x1024_1_0)))
    (mulf (broadcastInDim S32766x1024 ![] bcast_S_S32766x1024 (constant S_ .f32 0x3E800000#32)) (extractStridedSlice S32766x1024 ![2, 0] x slices_S32768x1024_S32766x1024_2_0))

/-- The three parts that the reference joins. -/
abbrev parts (x : FVec F S32768x1024 .f32) : List ((s : Shape) × (s.Idx → F .f32)) :=
  [⟨S1x1024, extractStridedSlice S1x1024 ![0, 0] x slices_S32768x1024_S1x1024_0_0⟩, ⟨S32766x1024, innerOut x⟩,
    ⟨S1x1024, extractStridedSlice S1x1024 ![32767, 0] x slices_S32768x1024_S1x1024_32767_0⟩]

/-- The reference's result. -/
def refOut (x : FVec F S32768x1024 .f32) : FVec F S32768x1024 .f32 :=
  concatenate S32768x1024 0 (parts x) concatenates_S1x1024_S32766x1024_S1x1024_S32768x1024_d0

/-- A slice of the whole array from row `a`, read. -/
theorem slice_at (x : FVec F S32768x1024 .f32) (n a : ℕ) (h : S32768x1024.Slices ![a, 0] ⟨2, ![n, 1024]⟩)
    (i : (⟨2, ![n, 1024]⟩ : Shape).Idx) (hr : a + (i 0).val < 32768) :
    extractStridedSlice (⟨2, ![n, 1024]⟩ : Shape) ![a, 0] x h i = x (gix (a + (i 0).val) hr (i 1)) := by
  unfold extractStridedSlice
  congr 1
  funext d
  fin_cases d
  · rfl
  · exact Fin.ext (Nat.zero_add _)

/-- An inner row is the combination of three rows of the whole array. -/
theorem innerOut_at (x : FVec F S32768x1024 .f32) (r : ℕ) (hr : r < 32766) (j : Fin 1024) :
    innerOut x (inner r hr j) = comb (x (gix r (by omega) j)) (x (gix (r + 1) (by omega) j)) (x (gix (r + 2) (by omega) j)) := by
  have e0 := slice_at x 32766 0 slices_S32768x1024_S32766x1024_0_0 (inner r hr j) (by change 0 + r < _; omega)
  have e1 := slice_at x 32766 1 slices_S32768x1024_S32766x1024_1_0 (inner r hr j) (by change 1 + r < _; omega)
  have e2 := slice_at x 32766 2 slices_S32768x1024_S32766x1024_2_0 (inner r hr j) (by change 2 + r < _; omega)
  have g0 := congrArg x (gix_congr (Nat.zero_add r) (by omega) (by omega) j)
  have g1 := congrArg x (gix_congr (Nat.add_comm 1 r) (by omega) (by omega) j)
  have g2 := congrArg x (gix_congr (Nat.add_comm 2 r) (by omega) (by omega) j)
  rw [← g0, ← g1, ← g2]
  exact congr (congrArg₂ comb e0 e1) e2

/-- Row 0 of the result is row 0 of the argument; -/
theorem refOut_first (x : FVec F S32768x1024 .f32) (j : Fin 1024) : refOut x (gix 0 (by decide) j) = x (gix 0 (by decide) j) := by
  refine (concatenate_apply_piece (t := S32768x1024) 0 (parts x) concatenates_S1x1024_S32766x1024_S1x1024_S32768x1024_d0 (gix 0 (by decide) j) 0 (by exact Nat.zero_lt_succ _) S1x1024 _ rfl rfl 0 rfl (line j)
    (by intro b hb; fin_cases b <;> first | exact absurd rfl hb | rfl) rfl).trans ?_
  exact slice_at x 1 0 _ (line j) (by decide : 0 + 0 < 32768)

/-- row 32767 is row 32767; -/
theorem refOut_last (x : FVec F S32768x1024 .f32) (j : Fin 1024) : refOut x (gix 32767 (by decide) j) = x (gix 32767 (by decide) j) := by
  refine (concatenate_apply_piece (t := S32768x1024) 0 (parts x) concatenates_S1x1024_S32766x1024_S1x1024_S32768x1024_d0 (gix 32767 (by decide) j) 2 (by exact Nat.lt_succ_self _) S1x1024 _ rfl rfl 32767 rfl (line j)
    (by intro b hb; fin_cases b <;> first | exact absurd rfl hb | rfl) rfl).trans ?_
  exact slice_at x 1 32767 _ (line j) (by decide : 32767 + 0 < 32768)

/-- the row after row `r`, for every other one, is the combination of rows `r`, `r + 1` and `r + 2`. -/
theorem refOut_inner (x : FVec F S32768x1024 .f32) (r : ℕ) (hr : r < 32766) (j : Fin 1024) :
    refOut x (gix (r + 1) (by omega) j) = comb (x (gix r (by omega) j)) (x (gix (r + 1) (by omega) j)) (x (gix (r + 2) (by omega) j)) := by
  refine (concatenate_apply_piece (t := S32768x1024) 0 (parts x) concatenates_S1x1024_S32766x1024_S1x1024_S32768x1024_d0 (gix (r + 1) (by omega) j) 1 (by exact Nat.succ_lt_succ (Nat.zero_lt_succ _)) S32766x1024 _ rfl rfl 1 rfl (inner r hr j)
    (by intro b hb; fin_cases b <;> first | exact absurd rfl hb | rfl) (Nat.add_comm 1 r)).trans ?_
  exact innerOut_at x r hr j

/-- The reference's run leaves this result and its argument. -/
theorem run_ref (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v13) = refOut (m ((c.tc : Thread nD τ).loc main_arg0))
      ∧ r.2.mem ((c.tc : Thread nD τ).loc main_arg0) = m ((c.tc : Thread nD τ).loc main_arg0) :=
  Cert.ReferenceIdeal.Value.run m ρ

end Cert.SyncedProof.Whole

end
-- ==== Proof.Equation.lean ====
/-
  The equation: what a device leaves is its block of the reference's result, when every device starts from its block of
  the reference's argument.
-/
module

public import proofs.«01_k».proof.Proof.Launch
public import proofs.«01_k».proof.Proof.Reference
public import Idealize.ShloMosaic.Lib.Layout

@[expose] public section

noncomputable section

namespace Cert.SyncedProof

open Cert.SyncedIdeal Cert.SyncedIdeal.Gen
open Idealize.ShloMosaic Idealize.ShloMosaic.TcCoe Idealize.SL.Sem
open Cert.SyncedProof.Whole (gix gix_eta gix_congr refOut refOut_first refOut_last refOut_inner)

variable {F : FTy → Type} [FloatOps F]
variable (m : (ℓ : Loc nD τ sig) → Buf (Elt F) ℓ) (ρ : Dev nD → PrngReg)

/-! ## The arrays -/

/-- The block that is staged is the device's whole argument. -/
theorem xstg_eq (c : Dev nD) : xstg m ρ c = m ((c : Thread nD τ).loc main_arg0) := by
  unfold xstg s₀
  have hz : (fun a => (win0_0.index (0 : Fin 1)) a * main_arg0.ty.shape.size a) = fun _ => 0 := funext fun a => Nat.zero_mul _
  exact Memref.read_access_unit_zero (Elt F) main_arg0 hz (fun a => by rw [congrFun hz a, Nat.zero_add]) _

/-- The result array after the run is what the body left in its staging buffer. -/
theorem endArr_o (c : Dev nD) : endArr m ρ c (1 : Fin 2) = outAt m ρ c := by
  have h : (win0_1.blk (0 : Fin 1)).view.read (Elt F) (endArr m ρ c (1 : Fin 2)) = outAt m ρ c := by
    unfold endArr
    rw [show cfg0.N = ((0 : Fin 1) : Fin cfg0.N).val + 1 from rfl, (dats m ρ 0 c).arrAt_succ (1 : Fin 2) (0 : Fin 1)]
    rw [show (cfg0.win (1 : Fin 2)).flush (0 : Fin 1) = true from by decide, if_pos rfl]
    exact View.read_write_univ _ _
  have hz : (fun a => (win0_1.index (0 : Fin 1)) a * main_v1.ty.shape.size a) = fun _ => 0 := funext fun a => Nat.zero_mul _
  exact (Memref.read_access_unit_zero (Elt F) main_v1 hz (fun a => by rw [congrFun hz a, Nat.zero_add]) _).symm.trans h

/-! ## Blocks of rows -/

/-- Where row `r` of device `c`'s block lies in the whole array. -/
theorem tile_ix (h : Layout.Tiles (⟨2, ![2048, 1024]⟩ : Shape) ⟨2, ![32768, 1024]⟩ 0 16) (c : Fin 16) (r : ℕ) (hr : r < 2048) (j : Fin 1024)
    (hg : c.val * 2048 + r < 32768) : h.idx c (ix r hr j) = gix (c.val * 2048 + r) hg j := by
  funext a
  fin_cases a <;> rfl

variable (x : FVec F (⟨2, ![32768, 1024]⟩ : Shape) .f32)

/-- What it says that each device holds its block of `x`. -/
def Cut : Prop := ∀ c : Dev nD, m ((c : Thread nD τ).loc main_arg0) = Layout.block ⟨2, ![2048, 1024]⟩ ⟨2, ![32768, 1024]⟩ 0 16 c x

variable {m x}

/-- Row `r` of device `c` is row `2048 c + r` of `x`. -/
theorem Cut.at (hx : Cut m x) (c : Dev nD) (r : ℕ) (hr : r < 2048) (j : Fin 1024) (g : ℕ) (e : g = c.val * 2048 + r) (hg : g < 32768) :
    xAt m ρ c r hr j = x (gix g hg j) := by
  subst e
  unfold xAt
  rw [xstg_eq, hx c, Layout.block_apply, tile_ix _ c r hr j hg]

/-- The neighbour above and the neighbour below. -/
theorem nb_above (c : Dev nD) (h : Has false c) : (nb false c).val + 1 = c.val := by
  revert h; revert c; decide
theorem nb_below (c : Dev nD) (h : Has true c) : (nb true c).val = c.val + 1 := by
  revert h; revert c; decide

/-- Three rows that follow one another in the whole array, wherever they are held, combine to the reference's row. -/
theorem Cut.combine (hx : Cut m x) (c₁ c₂ c₃ : Dev nD) (r₁ r₂ r₃ : ℕ) (h₁ : r₁ < 2048) (h₂ : r₂ < 2048) (h₃ : r₃ < 2048) (j : Fin 1024)
    (g : ℕ) (hg : g < 32768) (e₁ : c₁.val * 2048 + r₁ + 1 = g) (e₂ : c₂.val * 2048 + r₂ = g) (e₃ : c₃.val * 2048 + r₃ = g + 1) (hg' : g + 1 < 32768) :
    comb (xAt m ρ c₁ r₁ h₁ j) (xAt m ρ c₂ r₂ h₂ j) (xAt m ρ c₃ r₃ h₃ j) = refOut x (gix g hg j) := by
  subst e₁
  rw [hx.at ρ c₁ r₁ h₁ j (c₁.val * 2048 + r₁) rfl (by omega), hx.at ρ c₂ r₂ h₂ j (c₁.val * 2048 + r₁ + 1) (by omega) (by omega),
    hx.at ρ c₃ r₃ h₃ j (c₁.val * 2048 + r₁ + 2) (by omega) (by omega)]
  exact (refOut_inner x (c₁.val * 2048 + r₁) (by omega) j).symm

/-- The first row of the whole array, and the last. -/
theorem Cut.top (hx : Cut m x) (c : Dev nD) (h : ¬ Has false c) (j : Fin 1024) (h0) (hg : c.val * 2048 + 0 < 32768) :
    xAt m ρ c 0 h0 j = refOut x (gix (c.val * 2048 + 0) hg j) := by
  have hz : c.val = 0 := Nat.eq_zero_of_not_pos h
  rw [hx.at ρ c 0 h0 j 0 (by omega) (by decide), gix_congr (show c.val * 2048 + 0 = 0 by omega) hg (by decide) j]
  exact (refOut_first x j).symm
theorem Cut.bottom (hx : Cut m x) (c : Dev nD) (h : ¬ Has true c) (j : Fin 1024) (h0) (hg : c.val * 2048 + 2047 < 32768) :
    xAt m ρ c 2047 h0 j = refOut x (gix (c.val * 2048 + 2047) hg j) := by
  have hz : ¬ c.val < 15 := h
  rw [hx.at ρ c 2047 h0 j 32767 (by omega) (by decide), gix_congr (show c.val * 2048 + 2047 = 32767 by omega) hg (by decide) j]
  exact (refOut_last x j).symm

/-- **The equation**: what device `c` leaves is block `c` of the reference's result. -/
theorem outAt_eq (hx : Cut m x) (c : Dev nD) :
    outAt m ρ c = Layout.block ⟨2, ![2048, 1024]⟩ ⟨2, ![32768, 1024]⟩ 0 16 c (refOut x) := by
  have hc : c.val < 16 := c.isLt
  funext i
  obtain ⟨r, hr, j, rfl⟩ : ∃ r hr j, i = ix r hr j := ⟨_, _, _, ix_eta i⟩
  have hg : c.val * 2048 + r < 32768 := by omega
  rw [Layout.block_apply, tile_ix _ c r hr j hg]
  unfold outAt
  change (if h0 : r = 0 then _ else if h1 : r = 2047 then _ else _) = _
  by_cases h0 : r = 0
  · rw [dif_pos h0]
    subst h0
    by_cases hh : Has false c
    · rw [if_pos hh]
      have hn := nb_above c hh
      exact hx.combine ρ (nb false c) c c 2047 0 1 _ _ _ j _ hg (by omega) (by omega) (by omega) (by omega)
    · rw [if_neg hh]
      exact hx.top ρ c hh j _ hg
  · rw [dif_neg h0]
    by_cases h1 : r = 2047
    · rw [dif_pos h1]
      subst h1
      by_cases hh : Has true c
      · rw [if_pos hh]
        have hn := nb_below c hh
        have hlt : c.val < 15 := hh
        exact hx.combine ρ c c (nb true c) 2046 2047 0 _ _ _ j _ hg (by omega) (by omega) (by omega) (by omega)
      · rw [if_neg hh]
        exact hx.bottom ρ c hh j _ hg
    · rw [dif_neg h1]
      exact hx.combine ρ c c c (r - 1) r (r + 1) _ _ _ j _ hg (by omega) (by omega) (by omega) (by omega)

end Cert.SyncedProof

end
-- ==== Proof.SameText.lean ====
/-
  The program over words and the one over the extended reals are the same text: their tables of bodies agree, over any
  float values.
-/
module

public import proofs.«01_k».proof.Proof.Gen.Synced
public import proofs.«01_k».proof.Proof.Gen.SyncedIdeal

@[expose] public section

noncomputable section

namespace Cert.SyncedProof

open Idealize.ShloMosaic

variable {F : FTy → Type} [FloatOps F]

/-- The kernel's body, under its one label. -/
theorem bodies_same : Cert.Synced.defs₀ (F := F) = Cert.SyncedIdeal.defs₀ (F := F) := by
  unfold Cert.Synced.defs₀ Cert.SyncedIdeal.defs₀
  refine congrArg Defs.onTc ?_
  funext ℓ a
  match ℓ, a with
  | 0, (t, s) => rfl
  | ⟨_ + 1, h⟩, _ => exact absurd h (Nat.not_lt.2 (Nat.le_add_left _ _))

/-- The whole table. -/
theorem defs_same : Cert.Synced.defs (F := F) = Cert.SyncedIdeal.defs (F := F) := by
  unfold Cert.Synced.defs Cert.SyncedIdeal.defs
  exact congrArg (Pipeline.defs Cert.SyncedIdeal.pcfgs) bodies_same

end Cert.SyncedProof

end
-- ==== Proof.Bare.Protocol.lean ====
/-
  The halo exchange without an entry handshake: who sends to and waits for whom, and what stays true of a landing row
  although nobody knows when it is written.

  The sixteen devices stand in a line. Device `c` exchanges one row with each neighbour it has, and everything about
  one of its two sides is written once, for a direction `b`: `true` is towards the device of the next number, `false`
  towards the one before. `Has b c` says there is a neighbour on that side, `nb b c` names it (cyclically, so that it
  is a function; at the two ends of the line it names a device nothing is exchanged with).

  For every device `c` and direction `b`:
  * the send counter `sS b` of `c` is raised when `c`'s own copy in direction `b` has left; with it comes back the
    share of the row that was read;
  * the receive counter `vS b` of `c` is raised when the neighbour's row has landed; with it comes the leave to write
    that the neighbour held, and no contents: the row may have landed before `c` entered the kernel, and then what it
    brought is gone.

  Until then `c`'s landing row for direction `b` lies where both sides reach it, beside two tokens: `mayWrite c b`, which the
  neighbour holds while it writes, and `mayTake c b`, which `c` holds until it takes the row out. Whoever holds one of them finds
  the row there. Both are units of the rounds' bookkeeping that no counter is ever raised by.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Rounds
public import Idealize.ShloMosaic.Lib.Writes
public import Idealize.ShloMosaic.Lib.Pipeline.Launch
public import Idealize.ShloMosaic.Lib.Pipeline.Kit
public import Idealize.ShloMosaic.Lib.Tactic

@[expose] public section

noncomputable section

namespace Cert.BareProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state: the pipeline's own, and the rounds of the exchange's counters with one duty per direction. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The machine at the start: memory `m`, every counter zero. -/
def s₀ : MemSt nD τ sig (Elt F) := ⟨m, fun _ => 0, ρ⟩

/-! ## The line of devices -/

/-- Device `c` has a neighbour in direction `b`. -/
def Has : Bool → Dev nD → Prop
  | true, c => c.val < 15
  | false, c => 0 < c.val

instance (b : Bool) (c : Dev nD) : Decidable (Has b c) := by cases b <;> (unfold Has; infer_instance)

set_option backward.proofsInPublic true in
/-- The neighbour in direction `b`, around a ring. -/
def nb : Bool → Dev nD → Dev nD
  | true, c => ⟨(c.val + 1) % 16, Nat.mod_lt _ (by decide)⟩
  | false, c => ⟨(c.val + 15) % 16, Nat.mod_lt _ (by decide)⟩

theorem nb_back (b : Bool) (c : Dev nD) : nb (!b) (nb b c) = c := by revert b c; decide
theorem has_nb (b : Bool) (c : Dev nD) : Has (!b) (nb b c) ↔ Has b c := by revert b c; decide

/-- Crossing the link on a device's side `b`: the neighbour, and its side that faces back. -/
def cross : Dev nD × Bool ≃ Dev nD × Bool where
  toFun e := (nb e.2 e.1, !e.2)
  invFun e := (nb e.2 e.1, !e.2)
  left_inv := fun ⟨c, b⟩ => by simp [nb_back]
  right_inv := fun ⟨c, b⟩ => by simp [nb_back]

/-! ## Rows, counters and cells -/

abbrev xM : Memref sig .tc .vmem S2048x1024 .f32 := Memref.whole cc0_stg0_0
abbrev oM : Memref sig .tc .vmem S2048x1024 .f32 := Memref.whole cc0_stg1_0
abbrev kM : Memref sig .tc .vmem S2x1024 .f32 := Memref.whole cc0_scratch0

/-- The row of its block a device sends in direction `b`: its last one up, its first one down. -/
abbrev edgeM : Bool → Memref sig .tc .vmem S1x1024 .f32
  | true => xM.slice (Rect.unit (s := S2048x1024) ![2047, 0] S1x1024.size inb_S2048x1024_S1x1024_2047_0) (fun _ => rfl)
  | false => xM.slice (Rect.unit (s := S2048x1024) ![0, 0] S1x1024.size inb_S2048x1024_S1x1024_0_0) (fun _ => rfl)

/-- The landing row for what comes from direction `b`. -/
abbrev slotM : Bool → Memref sig .tc .vmem S1x1024 .f32
  | true => kM.slice (Rect.unit (s := S2x1024) ![1, 0] S1x1024.size inb_S2x1024_S1x1024_1_0) (fun _ => rfl)
  | false => kM.slice (Rect.unit (s := S2x1024) ![0, 0] S1x1024.size inb_S2x1024_S1x1024_0_0) (fun _ => rfl)

/-- The counter of the copy sent in direction `b`. -/
abbrev sS : Bool → DmaSem sig
  | true => ⟨2, by decide⟩
  | false => ⟨3, by decide⟩
/-- The counter of the copy that comes from direction `b`. -/
abbrev vS : Bool → DmaSem sig
  | true => ⟨5, by decide⟩
  | false => ⟨4, by decide⟩

/-- The kernel reaches these four by slicing its two semaphore arrays. -/
theorem send_slice0 : ((cc0_scratch1.slice (Rect.unit (s := S2) ![0] S1.size inb_S2_S1_0)).squeeze S_ squeezes_S1_S_).sem = sS true := rfl
theorem send_slice1 : ((cc0_scratch1.slice (Rect.unit (s := S2) ![1] S1.size inb_S2_S1_1)).squeeze S_ squeezes_S1_S_).sem = sS false := rfl
theorem recv_slice0 : ((cc0_scratch2.slice (Rect.unit (s := S2) ![0] S1.size inb_S2_S1_0)).squeeze S_ squeezes_S1_S_).sem = vS false := rfl
theorem recv_slice1 : ((cc0_scratch2.slice (Rect.unit (s := S2) ![1] S1.size inb_S2_S1_1)).squeeze S_ squeezes_S1_S_).sem = vS true := rfl

/-- The counters of one device: for each direction the send's and the receive's. -/
abbrev Role : Type := Bool × Bool

abbrev semOf : Role → SemLoc sig
  | (false, b) => .dma (sS b)
  | (true, b) => .dma (vS b)

abbrev cell (c : Dev nD) (k : Role) : GSem nD τ sig := ((c : Thread nD τ), semOf k)
abbrev sC (c : Dev nD) (b : Bool) : GSem nD τ sig := cell c (false, b)
abbrev vC (c : Dev nD) (b : Bool) : GSem nD τ sig := cell c (true, b)

theorem semOf_inj : Function.Injective semOf := by
  intro k k' h
  revert k k'; decide

/-- The bytes' worth of credit one row's copy raises a counter by. -/
abbrev N : ℕ := (slotM true).view.dmaCredit
theorem N_pos : 0 < N := View.dmaCredit_pos _ (by decide)
theorem slot_credit (b : Bool) : (slotM b).view.dmaCredit = N := by cases b <;> rfl
theorem edge_credit (b : Bool) : (edgeM b).view.dmaCredit = N := by cases b <;> rfl

/-! ## Contents -/

/-- The block of the input device `c` holds in its staging buffer. -/
def xstg (c : Dev nD) : (cc0_stg0_0 : Ref sig .tc).ty.Contents (Elt F) :=
  (win0_0.blk (0 : Fin 1)).view.read (Elt F) ((s₀ m ρ).mem ((c : Thread nD τ).loc main_arg0))

/-- The row device `c` sends in direction `b`. -/
def edgeRow (c : Dev nD) (b : Bool) : S1x1024.Idx → Elt F .f32 :=
  match b with
  | true => (edgeM true).view.read (Elt F) (xstg m ρ c)
  | false => (edgeM false).view.read (Elt F) (xstg m ρ c)

/-- Device `c`'s landing row for direction `b`, holding `f`'s. -/
def slotPts (c : Dev nD) (b : Bool) (f : (cc0_scratch0 : Ref sig .tc).ty.Contents (Elt F)) : sProp 𝕄 :=
  match b with
  | true => (slotM true).view.loc (c : Thread nD τ) ↦[(slotM true).view.set]{fullShare} f
  | false => (slotM false).view.loc (c : Thread nD τ) ↦[(slotM false).view.set]{fullShare} f

/-- The share of device `c`'s edge row that its copy in direction `b` reads. -/
def edgePts (c : Dev nD) (b : Bool) : sProp 𝕄 :=
  match b with
  | true => (edgeM true).view.loc (c : Thread nD τ) ↦[(edgeM true).view.set]{fullShare.left} xstg m ρ c
  | false => (edgeM false).view.loc (c : Thread nD τ) ↦[(edgeM false).view.set]{fullShare.left} xstg m ρ c

omit [FloatOps F] in
instance slotPts_storable (c : Dev nD) (b : Bool) (f) : BI.Storable (upEmb : UEmb _ 𝕄) (slotPts (F := F) c b f) := by
  cases b <;> (unfold slotPts; infer_instance)
omit [FloatOps F] in
instance edgePts_storable (c : Dev nD) (b : Bool) : BI.Storable (upEmb : UEmb _ 𝕄) (edgePts (F := F) m ρ c b) := by
  cases b <;> (unfold edgePts; infer_instance)

/-! ## The shared landing rows -/

/-- The leave to write device `c`'s landing row for direction `b`. -/
def mayWrite (c : Dev nD) (b : Bool) : sProp 𝕄 := dutyTok ER (vC c b) 1 b
/-- The leave to take it out. -/
def mayTake (c : Dev nD) (b : Bool) : sProp 𝕄 := dutyTok ER (vC c b) 1 (!b)

omit [FloatOps F] in
instance mayWrite_storable (c : Dev nD) (b : Bool) : BI.Storable (upEmb : UEmb _ 𝕄) (mayWrite (F := F) c b) := by
  unfold mayWrite; infer_instance
omit [FloatOps F] in
instance mayTake_storable (c : Dev nD) (b : Bool) : BI.Storable (upEmb : UEmb _ 𝕄) (mayTake (F := F) c b) := by
  unfold mayTake; infer_instance

omit [FloatOps F] in
theorem mayWrite_once (c : Dev nD) (b : Bool) : iprop(mayWrite (F := F) c b ∗ mayWrite c b) ⊢ (iprop(False) : sProp 𝕄) :=
  Rounds.dutyTok_dutyTok_false ER
omit [FloatOps F] in
theorem mayTake_once (c : Dev nD) (b : Bool) : iprop(mayTake (F := F) c b ∗ mayTake c b) ⊢ (iprop(False) : sProp 𝕄) :=
  Rounds.dutyTok_dutyTok_false ER

/-- A landing row where it is shared: the row, or, once it is taken out, what it was taken out for. -/
def shared (c : Dev nD) (b : Bool) : sProp 𝕄 :=
  iprop((∃ f, slotPts c b f) ∨ (mayTake c b ∗ if Has b c then mayWrite c b else emp))

omit [FloatOps F] in
instance shared_storable (c : Dev nD) (b : Bool) : BI.Storable (upEmb : UEmb _ 𝕄) (shared (F := F) c b) := by
  unfold shared; split <;> infer_instance

/-! ## The schedule -/

/-- The unit named `b` is due at cell `g`: `g` is the counter of a copy to or from a neighbour in direction `b`. -/
def Due (g : GSem nD τ sig) (b : Bool) : Prop :=
  g.1.2 = .tc ∧ Has b g.1.1 ∧ (g.2 = semOf (false, b) ∨ g.2 = semOf (true, b))

instance (g : GSem nD τ sig) (b : Bool) : Decidable (Due g b) := by unfold Due; infer_instance

/-- One round. What each unit hands to the counter's owner is as the head of this file says. -/
def sched : Rounds.Schedule (GSem nD τ sig) Bool 𝕄 where
  duties g r := Finset.univ.filter fun b => r = 0 ∧ Due g b
  unitless _ := False
  amount _ _ _ := N
  payload g _ b :=
    if g.2 = semOf (false, b) then edgePts m ρ g.1.1 b
    else if g.2 = semOf (true, b) then mayWrite g.1.1 b
    else iprop(emp)
  amount_pos _ _ _ _ := N_pos

instance sched_storable (g : GSem nD τ sig) (r : ℕ) (b : Bool) :
    BI.Storable (upEmb : UEmb _ 𝕄) ((sched (F := F) m ρ).payload g r b) := by
  show BI.Storable upEmb (if g.2 = semOf (false, b) then edgePts m ρ g.1.1 b
    else if g.2 = semOf (true, b) then mayWrite g.1.1 b else iprop(emp))
  (repeat' split) <;> infer_instance

section Tables
variable (c : Dev nD) (b : Bool)

theorem due_send : Due (sC c b) b ↔ Has b c := ⟨fun h => h.2.1, fun h => ⟨rfl, h, .inl rfl⟩⟩
theorem due_recv : Due (vC c b) b ↔ Has b c := ⟨fun h => h.2.1, fun h => ⟨rfl, h, .inr rfl⟩⟩

/-- At a copy's counter only the unit of that copy's direction is due. -/
theorem due_dma {v d : Bool} (h : Due (cell c (v, b)) d) : d = b := by
  rcases h with ⟨-, -, h | h⟩
  · have := semOf_inj h; simp only [Prod.mk.injEq] at this; exact this.2.symm
  · have := semOf_inj h; simp only [Prod.mk.injEq] at this; exact this.2.symm

theorem due_dma_iff (v : Bool) : Due (cell c (v, b)) b ↔ Has b c := by
  cases v
  · exact due_send c b
  · exact due_recv c b

theorem mem_duties (g : GSem nD τ sig) (d : Bool) : d ∈ (sched (F := F) m ρ).duties g 0 ↔ Due g d := by
  dsimp only [sched]; simp

theorem duties_later (g : GSem nD τ sig) (r : ℕ) (hr : 1 ≤ r) : (sched (F := F) m ρ).duties g r = ∅ := by
  dsimp only [sched]
  exact Finset.filter_eq_empty_iff.mpr fun _ _ h => by omega

/-- A counter no unit is due at stays at zero. -/
theorem duties_none (g : GSem nD τ sig) (h : ∀ d, ¬ Due g d) (r : ℕ) : (sched (F := F) m ρ).duties g r = ∅ := by
  dsimp only [sched]
  exact Finset.filter_eq_empty_iff.mpr fun d _ h' => h d h'.2

theorem amount_dma (v d : Bool) : (sched (F := F) m ρ).amount (cell c (v, b)) 0 d = N := rfl

theorem duties_dma (v : Bool) (h : Has b c) : (sched (F := F) m ρ).duties (cell c (v, b)) 0 = {b} := by
  ext d
  rw [mem_duties, Finset.mem_singleton]
  exact ⟨due_dma c b, fun e => e ▸ (due_dma_iff c b v).mpr h⟩

theorem expect_dma (v : Bool) (h : Has b c) : (sched (F := F) m ρ).expect (cell c (v, b)) 0 = N := by
  unfold Schedule.expect Schedule.amountOf
  rw [duties_dma m ρ c b v h, Finset.sum_singleton, amount_dma]

theorem payload_send : (sched (F := F) m ρ).payload (sC c b) 0 b = edgePts m ρ c b := by
  dsimp only [sched]; exact if_pos rfl
theorem payload_recv : (sched (F := F) m ρ).payload (vC c b) 0 b = mayWrite c b := by
  dsimp only [sched]
  rw [if_neg fun h => absurd (semOf_inj h) (by simp)]; exact if_pos rfl

theorem rest_dma (v : Bool) (h : Has b c) :
    bigSep ((sched (F := F) m ρ).duties (cell c (v, b)) 0 \ ∅) (fun d => (sched (F := F) m ρ).payload (cell c (v, b)) 0 d)
      = (sched (F := F) m ρ).payload (cell c (v, b)) 0 b := by
  rw [Finset.sdiff_empty, duties_dma m ρ c b v h, bigSep_singleton]

end Tables

/-! ## What each device owes at the start, and the order in which counters are waited for -/

/-- The row's credit device `c` owes its neighbour's receive counter on side `b`. -/
def owedRow (c : Dev nD) (b : Bool) : CellTallies nD τ sig Unit := if Has b c then tallyAt (vC (nb b c) (!b)) () N else 0

/-- What `c` owes at the start: its two rows. -/
def O₀ (c : Dev nD) : CellTallies nD τ sig Unit := 0 + owedRow c false + owedRow c true

def L (g : GSem nD τ sig) : Finset Unit := if g.1.2 = .tc then {()} else ∅
/-- Receive counters are waited for last. -/
def lv (g : GSem nD τ sig) (_ : Unit) : ℕ := if g.2 = semOf (true, true) ∨ g.2 = semOf (true, false) then 1 else 0

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (b : Bool) : lv (vC c b) () = 1 := by cases b <;> rfl

theorem owedRow_pos {c : Dev nD} {b : Bool} {g : GSem nD τ sig} {u : Unit} (h : 0 < owedRow c b g u) : g = vC (nb b c) (!b) := by
  unfold owedRow at h
  split at h
  · rw [tallyAt_apply] at h
    by_contra hn
    rw [if_neg fun e => hn e.1] at h; exact Nat.lt_irrefl 0 h
  · exact absurd h (Nat.lt_irrefl 0)

theorem O₀_pos {c : Dev nD} {g : GSem nD τ sig} {u : Unit} (h : 0 < O₀ c g u) : ∃ b, g = vC (nb b c) (!b) := by
  have h' : 0 < 0 + owedRow c false g u + owedRow c true g u := h
  by_cases h1 : 0 < owedRow c false g u
  · exact ⟨false, owedRow_pos h1⟩
  · refine ⟨true, owedRow_pos (u := u) (Nat.pos_of_ne_zero fun h2 => ?_)⟩
    rw [Nat.eq_zero_of_not_pos h1, h2] at h'
    exact Nat.lt_irrefl 0 h'

omit [FloatOps F] in
/-- The pipeline's own waits come before the exchange's. -/
theorem mayWait_stage (c : Dev nD) (q : DmaSem sig)
    (hq : ¬ (SemLoc.dma q = semOf (true, true) ∨ SemLoc.dma q = semOf (true, false)))
    (O : CellTallies nD τ sig Unit) (hO : O = O₀ c ∨ O = 0) :
    (levAts L lv : sProp 𝕄) ⊢ MayWait (c : Thread nD τ) (.dma q) () O := by
  rcases hO with rfl | rfl
  · have hlv : lv ((c : Thread nD τ), SemLoc.dma q) () = 0 := by
      unfold lv; rw [if_neg hq]
    refine MayOwe.of_cut (L := L) (lev := lv) 0 (fun p hp => by rw [Finset.mem_singleton.mp hp, L_tc]; exact Finset.mem_singleton_self _)
      (fun g u hg => by obtain ⟨b, rfl⟩ := O₀_pos hg; exact Finset.mem_singleton_self _)
      (fun p hp => by rw [Finset.mem_singleton.mp hp]; exact le_of_eq hlv)
      (fun g u hg => by obtain ⟨b, rfl⟩ := O₀_pos hg; rw [lv_recv]; decide)
  · rw [MayWait_zero]; iintro -; iempintro

end Cert.BareProof

end
-- ==== Proof.Bare.Program.lean ====
/-
  The kernel's body as a sequence of steps, each of which is done only on the devices its condition holds of, and what
  those conditions, target devices and amounts are on device `c`.
-/
module

public import proofs.«01_k».proof.Proof.Bare.Protocol

@[expose] public section

noncomputable section

namespace Cert.BareProof

open Cert.KernelIdeal Cert.KernelIdeal.Gen
open Idealize.ShloMosaic
open Idealize.ShloMosaic.TcCoe
open Idealize.SL.Sem

variable {F : FTy → Type} [FloatOps F]

/-- The programs of one core. -/
abbrev Code (F : FTy → Type) (α : Type) : Type 1 := Prog (TpuEff nD τ sig (Elt F) Λ₀ .tc) α

/-- `e` where `p` holds, nothing where it does not. -/
def opIf (p : Prop) [Decidable p] (e : p → Code F PUnit) : Code F PUnit := if h : p then e h else pure ⟨⟩

theorem opIf_bind {α : Type} (p : Prop) [Decidable p] (e : p → Code F PUnit) (k : PUnit → Code F α) :
    opIf p e >>= k = if h : p then e h >>= k else k ⟨⟩ := by
  unfold opIf
  split <;> rfl

/-- The one-row rectangles of the block the body loads and stores, and the 2046 rows starting at 0, 1, 2. -/
abbrev r0 : Rect S2048x1024 := Rect.unit (s := S2048x1024) ![0, 0] S1x1024.size inb_S2048x1024_S1x1024_0_0
abbrev r1 : Rect S2048x1024 := Rect.unit (s := S2048x1024) ![1, 0] S1x1024.size inb_S2048x1024_S1x1024_1_0
abbrev r2046 : Rect S2048x1024 := Rect.unit (s := S2048x1024) ![2046, 0] S1x1024.size inb_S2048x1024_S1x1024_2046_0
abbrev r2047 : Rect S2048x1024 := Rect.unit (s := S2048x1024) ![2047, 0] S1x1024.size inb_S2048x1024_S1x1024_2047_0
abbrev q0 : Rect S2048x1024 := Rect.unit (s := S2048x1024) ![0, 0] S2046x1024.size inb_S2048x1024_S2046x1024_0_0
abbrev q1 : Rect S2048x1024 := Rect.unit (s := S2048x1024) ![1, 0] S2046x1024.size inb_S2048x1024_S2046x1024_1_0
abbrev q2 : Rect S2048x1024 := Rect.unit (s := S2048x1024) ![2, 0] S2046x1024.size inb_S2048x1024_S2046x1024_2_0
abbrev k0 : Rect S2x1024 := Rect.unit (s := S2x1024) ![0, 0] S1x1024.size inb_S2x1024_S1x1024_0_0
abbrev k1 : Rect S2x1024 := Rect.unit (s := S2x1024) ![1, 0] S1x1024.size inb_S2x1024_S1x1024_1_0

/-- The copy of an edge row to the neighbour `n`. -/
abbrev sendUp (n : Dev nD) : Code F PUnit :=
  Prog.lift (.enqueueDma (edgeM true) (.remote (Dev.tc n : Thread nD τ) (slotM false) (.dma (sS true))) (.dma (vS false))
    (View.wordExact_bits rfl) (View.wordExact_bits rfl) ⟨⟨rfl, Or.inl rfl⟩, trivial⟩)
abbrev sendDown (n : Dev nD) : Code F PUnit :=
  Prog.lift (.enqueueDma (edgeM false) (.remote (Dev.tc n : Thread nD τ) (slotM true) (.dma (sS false))) (.dma (vS true))
    (View.wordExact_bits rfl) (View.wordExact_bits rfl) ⟨⟨rfl, Or.inl rfl⟩, trivial⟩)

/-- The stencil of the block's own rows. -/
abbrev midStep : Code F PUnit := do
  let a ← Prog.lift (.load xM q0.toLoadRect (View.loadsAt_vmem h_S2046x1024))
  let b ← Prog.lift (.load xM q1.toLoadRect (View.loadsAt_vmem h_S2046x1024))
  let d ← Prog.lift (.load xM q2.toLoadRect (View.loadsAt_vmem h_S2046x1024))
  let _ ← Prog.lift (.load oM q1.toLoadRect (View.loadsAt_vmem h_S2046x1024))
  Prog.lift (.store oM q1 (k0_pay2 a b d) Finset.univ (View.stores_vmem_bits_univ h_S2046x1024 rfl) (.inl rfl))

/-- The first row, where there is a device before: its last row is waited for. -/
abbrev topHalo : Code F PUnit := do
  Prog.lift (.waitDma2 (vS false) (edgeM true) (slotM false) (View.wordExact_bits rfl) (View.wordExact_bits rfl))
  let a ← Prog.lift (.load kM k0.toLoadRect (View.loadsAt_vmem h_S1x1024))
  let b ← Prog.lift (.load xM r0.toLoadRect (View.loadsAt_vmem h_S1x1024))
  let d ← Prog.lift (.load xM r1.toLoadRect (View.loadsAt_vmem h_S1x1024))
  let _ ← Prog.lift (.load oM r0.toLoadRect (View.loadsAt_vmem h_S1x1024))
  Prog.lift (.store oM r0 (k0_pay3 a b d) Finset.univ (View.stores_vmem_bits_univ h_S1x1024 rfl) (.inl rfl))

/-- The first row of all. -/
abbrev topKeep : Code F PUnit := do
  let a ← Prog.lift (.load xM r0.toLoadRect (View.loadsAt_vmem h_S1x1024))
  let _ ← Prog.lift (.load oM r0.toLoadRect (View.loadsAt_vmem h_S1x1024))
  Prog.lift (.store oM r0 (k0_pay4 a) Finset.univ (View.stores_vmem_bits_univ h_S1x1024 rfl) (.inl rfl))

/-- The last row, where there is a device after: its first row is waited for. -/
abbrev botHalo : Code F PUnit := do
  Prog.lift (.waitDma2 (vS true) (edgeM false) (slotM true) (View.wordExact_bits rfl) (View.wordExact_bits rfl))
  let a ← Prog.lift (.load xM r2046.toLoadRect (View.loadsAt_vmem h_S1x1024))
  let b ← Prog.lift (.load xM r2047.toLoadRect (View.loadsAt_vmem h_S1x1024))
  let d ← Prog.lift (.load kM k1.toLoadRect (View.loadsAt_vmem h_S1x1024))
  let _ ← Prog.lift (.load oM r2047.toLoadRect (View.loadsAt_vmem h_S1x1024))
  Prog.lift (.store oM r2047 (k0_pay5 a b d) Finset.univ (View.stores_vmem_bits_univ h_S1x1024 rfl) (.inl rfl))

/-- The last row of all. -/
abbrev botKeep : Code F PUnit := do
  let a ← Prog.lift (.load xM r2047.toLoadRect (View.loadsAt_vmem h_S1x1024))
  let _ ← Prog.lift (.load oM r2047.toLoadRect (View.loadsAt_vmem h_S1x1024))
  Prog.lift (.store oM r2047 (k0_pay1 a) Finset.univ (View.stores_vmem_bits_univ h_S1x1024 rfl) (.inl rfl))

abbrev sentUp : Code F PUnit :=
  Prog.lift (.waitDma2 (sS true) (slotM false) (edgeM true) (View.wordExact_bits rfl) (View.wordExact_bits rfl))
abbrev sentDown : Code F PUnit :=
  Prog.lift (.waitDma2 (sS false) (slotM true) (edgeM false) (View.wordExact_bits rfl) (View.wordExact_bits rfl))

/-- The words of the device's place: whether there is a device before it, and after it. -/
abbrev wPrev (d0 : Dev nD) : BitVec 1 := Scalar.cmpi .sgt (Scalar.remsi (Scalar.divsi (Dev.word d0) 1#32) 16#32) 0#32
abbrev wNext (d0 : Dev nD) : BitVec 1 := Scalar.cmpi .slt (Scalar.remsi (Scalar.divsi (Dev.word d0) 1#32) 16#32) 15#32

/-- The body up to its last row on device `d0`: the sends, the stencil of the block's own rows, the first row, and the last
    where there is a device after. -/
def first (d0 : Dev nD) : Code F PUnit :=
  (opIf (k0_cond1 d0 = 1#1) fun h => sendUp ⟨k0_dev1 d0, k0_dev1_lt d0 h⟩) >>= fun _ =>
  (opIf (k0_cond2 d0 = 1#1) fun h => sendDown ⟨k0_dev2 d0, k0_dev2_lt d0 h⟩) >>= fun _ =>
  midStep >>= fun _ =>
  (opIf (Scalar.cmpi .ne (Scalar.extui (wPrev d0) : BitVec 32) 0#32 = 1#1) fun _ => topHalo) >>= fun _ =>
  (opIf (Scalar.cmpi .ne (Scalar.extui (Scalar.xori (wPrev d0) 1#1) : BitVec 32) 0#32 = 1#1) fun _ => topKeep) >>= fun _ =>
  (opIf (Scalar.cmpi .ne (Scalar.extui (wNext d0) : BitVec 32) 0#32 = 1#1) fun _ => botHalo)

/-- The rest, of those two words: the last row of all, and the waits for the device's own copies to have left. -/
def second (p n w : BitVec 1) : Code F PUnit :=
  (opIf (Scalar.cmpi .ne (Scalar.extui (Scalar.xori n w) : BitVec 32) 0#32 = 1#1) fun _ => botKeep) >>= fun _ =>
  (opIf (Scalar.cmpi .ne (Scalar.extui n : BitVec 32) 0#32 = 1#1) fun _ => sentUp) >>= fun _ =>
  (opIf (Scalar.cmpi .ne (Scalar.extui p : BitVec 32) 0#32 = 1#1) fun _ => sentDown)

set_option maxRecDepth 65536 in
theorem part1_eq :
    k0_part1_skel (F := F) xM (Memref.isWhole_whole _) oM (Memref.isWhole_whole _) kM (Memref.isWhole_whole _) cc0_scratch1 cc0_scratch2
      = Prog.op .deviceId fun d0 => first d0 >>= fun _ =>
          pure ⟨Scalar.remsi (Scalar.divsi (Dev.word d0) 1#32) 16#32, wPrev d0, wNext d0, 1#1⟩ := by
  unfold first
  refine congrArg (Prog.op TpuEff.deviceId) (funext fun d0 => ?_)
  simp only [Prog.bind_assoc]
  simp only [opIf_bind]
  rfl

set_option maxRecDepth 65536 in
theorem rest_eq :
    cc0_body_skel (F := F) xM (Memref.isWhole_whole _) oM (Memref.isWhole_whole _) kM (Memref.isWhole_whole _) cc0_scratch1 cc0_scratch2
      = k0_part1 (F := F) xM (Memref.isWhole_whole _) oM (Memref.isWhole_whole _) kM (Memref.isWhole_whole _) cc0_scratch1 cc0_scratch2
          >>= fun v => second v.2.1 v.2.2.1 v.2.2.2 := by
  unfold second
  simp only [opIf_bind]
  unfold opIf
  rfl

theorem body_eq :
    cc0_body_skel (F := F) xM (Memref.isWhole_whole _) oM (Memref.isWhole_whole _) kM (Memref.isWhole_whole _) cc0_scratch1 cc0_scratch2
      = Prog.op .deviceId fun d0 => first d0 >>= fun _ => second (wPrev d0) (wNext d0) 1#1 := by
  rw [rest_eq, k0_part1_eq_skeleton, part1_eq]
  refine congrArg (Prog.op (TpuEff.deviceId)) (funext fun d0 => ?_)
  exact (Prog.bind_assoc (first d0) _ _).trans rfl

/-! ## The conditions, target devices and amounts on device `c` -/

section Place
variable (c : Dev nD)

theorem cond1_iff : k0_cond1 c = 1#1 ↔ Has true c := by revert c; decide
theorem cond2_iff : k0_cond2 c = 1#1 ↔ Has false c := by revert c; decide
theorem prev_iff : Scalar.cmpi .ne (Scalar.extui (wPrev c) : BitVec 32) 0#32 = 1#1 ↔ Has false c := by revert c; decide
theorem noprev_iff : Scalar.cmpi .ne (Scalar.extui (Scalar.xori (wPrev c) 1#1) : BitVec 32) 0#32 = 1#1 ↔ ¬ Has false c := by revert c; decide
theorem next_iff : Scalar.cmpi .ne (Scalar.extui (wNext c) : BitVec 32) 0#32 = 1#1 ↔ Has true c := by revert c; decide
theorem nonext_iff : Scalar.cmpi .ne (Scalar.extui (Scalar.xori (wNext c) 1#1) : BitVec 32) 0#32 = 1#1 ↔ ¬ Has true c := by revert c; decide

theorem dev1_nb (h : k0_cond1 c = 1#1) : (⟨k0_dev1 c, k0_dev1_lt c h⟩ : Dev nD) = nb true c := by revert c; decide
theorem dev2_nb (h : k0_cond2 c = 1#1) : (⟨k0_dev2 c, k0_dev2_lt c h⟩ : Dev nD) = nb false c := by revert c; decide

end Place

end Cert.BareProof

end
-- ==== Proof.Bare.Steps.lean ====
/-
  The exchange's steps, one theorem each, written once for both directions. Every theorem says: holding these resources
  on device `c`, the step runs whether or not its condition holds, and gives those back. What is handed over only where
  there is a neighbour is `emp` where there is none.
-/
module

public import proofs.«01_k».proof.Proof.Bare.Program

@[expose] public section

noncomputable section

namespace Cert.BareProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Role → ℕ)

abbrev 𝒱₀ : Variants := Variants.none

/-- The weakest precondition of a piece of device `c`'s body. -/
abbrev wpc (c : Dev nD) {α : Type} (p : Code F α) (Q : α → sProp 𝕄) : sProp 𝕄 :=
  wp frame (wpE (defs₀ (F := F)) 𝒱₀ (c : Thread nD τ) none) Set.univ p Q

theorem wpc_ret (c : Dev nD) {α : Type} (a : α) (Q : α → sProp 𝕄) : Q a ⊢ wpc c (Prog.ret a) Q := by
  iintro H
  unfold wpc
  rw [wp_ret]; imodintro; iexact H

/-- The invariant of a counter. -/
abbrev inv (c : Dev nD) (k : Role) : sProp 𝕄 := cellInv ER (sched (F := F) m ρ) (K (c, k)) (cell c k)

/-- After the send: the credits of its counter where it was done, the untouched share of the row where it was not. -/
def sentOut (c : Dev nD) (b : Bool) : sProp 𝕄 := if Has b c then iprop(cred (tallyAt (sC c b) () N)) else edgePts m ρ c b

/-- The credits of the receive counter, where a row comes. -/
def owedIn (c : Dev nD) (b : Bool) : sProp 𝕄 := if Has b c then iprop(cred (tallyAt (vC c b) () N)) else iprop(emp)

/-- A landing row once it is out. -/
def slotIn (c : Dev nD) (b : Bool) : sProp 𝕄 := iprop(∃ f, slotPts c b f)

/-! ## The two landing rows of a device, in one invariant -/

/-- Both landing rows of device `c`, shared. -/
abbrev slotsInv (κ : ℕ) (c : Dev nD) : sProp 𝕄 :=
  Idealize.ShloMosaic.inv κ (iprop(shared (F := F) c true ∗ shared (F := F) c false) : sProp 𝕄)

omit [FloatOps F] in
/-- Who may write a row finds it there. -/
theorem shared_write (c : Dev nD) (b : Bool) (hb : Has b c) :
    iprop(shared (F := F) c b ∗ mayWrite c b) ⊢ (iprop(slotIn c b ∗ mayWrite c b) : sProp 𝕄) := by
  unfold shared slotIn
  rw [if_pos hb]
  iintro ⟨⟨Hs | ⟨-, Hw'⟩⟩, Hw⟩
  · isplitl [Hs] <;> iassumption
  · iexfalso
    iapply (mayWrite_once (F := F) c b)
    isplitl [Hw] <;> iassumption

omit [FloatOps F] in
/-- And so does who may take it. -/
theorem shared_take (c : Dev nD) (b : Bool) :
    iprop(shared (F := F) c b ∗ mayTake c b) ⊢ (iprop(slotIn c b ∗ mayTake c b) : sProp 𝕄) := by
  unfold shared slotIn
  iintro ⟨⟨Hs | ⟨Hw', -⟩⟩, Hw⟩
  · isplitl [Hs] <;> iassumption
  · iexfalso
    iapply (mayTake_once (F := F) c b)
    isplitl [Hw] <;> iassumption

omit [FloatOps F] in
/-- One of the two rows with the invariant opened: it goes back as it came or in any other way. -/
theorem slots_open (κ : ℕ) (c : Dev nD) (b : Bool) :
    slotsInv (F := F) κ c ⊢ iprop(|={Set.univ, Set.univ \ {κ}}=> (shared (F := F) c b ∗ (shared (F := F) c b -∗ |={Set.univ \ {κ}, Set.univ}=> emp))) := by
  iintro #HI
  imod (inv_acc (Set.mem_univ κ)) $$ HI with ⟨⟨H1, H0⟩, Hclose⟩
  imodintro
  cases b
  · isplitl [H0]; · iexact H0
    iintro H0
    iapply Hclose
    isplitl [H1] <;> iassumption
  · isplitl [H1]; · iexact H1
    iintro H1
    iapply Hclose
    isplitl [H1] <;> iassumption

omit [FloatOps F] in
/-- Writing a row in any number of steps: each finds it in the invariant and leaves it there. -/
theorem slot_update (κ : ℕ) (c : Dev nD) (b : Bool) (hb : Has b c) (w : S1x1024.Idx → Elt F .f32) :
    iprop(slotsInv (F := F) κ c ∗ mayWrite c b)
      ⊢ (writeUpdate (c : Thread nD τ) (slotM b).view w (mayWrite (F := F) c b) : sProp 𝕄) := by
  rw [writeUpdate, writeUpdateFrom_def]
  iintro ⟨#HI, Hw⟩
  iexists (fun _ => mayWrite (F := F) c b)
  isplitl [Hw]; · iexact Hw
  isplitr
  · rw [writeSteps_def]
    imodintro
    iintro %M %M' Hw
    imod (slots_open (F := F) κ c b) $$ HI with ⟨Hs, Hclose⟩
    imodintro
    ihave Hs := (shared_write (F := F) c b hb) $$ [Hs Hw]
    · isplitl [Hs] <;> iassumption
    rw [storeSpec_apply]
    cases b
    · unfold slotIn shared slotPts
      icases Hs with ⟨⟨%f, Hs⟩, Hw⟩
      iexists (slotM false).view.set, f
      isplitl [Hs]; · iexact Hs
      isplitr; · ipureintro; exact (slotM false).view.setOn_subset_set _
      iintro Hs
      ihave Hc := Hclose $$ [Hs]
      · ileft; iexists _; iexact Hs
      imod Hc
      imodintro
      iexact Hw
    · unfold slotIn shared slotPts
      icases Hs with ⟨⟨%f, Hs⟩, Hw⟩
      iexists (slotM true).view.set, f
      isplitl [Hs]; · iexact Hs
      isplitr; · ipureintro; exact (slotM true).view.setOn_subset_set _
      iintro Hs
      ihave Hc := Hclose $$ [Hs]
      · ileft; iexists _; iexact Hs
      imod Hc
      imodintro
      iexact Hw
  · iintro H; iexact H

omit [FloatOps F] in
/-- Taking a row out for good. -/
theorem slot_take (κ : ℕ) (c : Dev nD) (b : Bool) :
    iprop(slotsInv (F := F) κ c ∗ mayTake c b ∗ (if Has b c then mayWrite c b else emp)) ⊢ iprop(|={Set.univ}=> slotIn (F := F) c b) := by
  iintro ⟨#HI, Ht, Hw⟩
  imod (slots_open (F := F) κ c b) $$ HI with ⟨Hs, Hclose⟩
  ihave Hs := (shared_take (F := F) c b) $$ [Hs Ht]
  · isplitl [Hs] <;> iassumption
  icases Hs with ⟨Hs, Ht⟩
  ihave Hc := Hclose $$ [Ht Hw]
  · unfold shared
    iright
    isplitl [Ht] <;> iassumption
  imod Hc
  imodintro
  iexact Hs

/-! ## The sends -/

/-- A row's copy to a neighbour that exists, whatever its landing row does meanwhile. -/
theorem wp_row (κ : ℕ) (c n : Dev nD) (b : Bool) (hn : n = nb b c) (hb : Has b c)
    {hsc : (slotM (!b) : Memref sig (Dev.tc n : Thread nD τ).2.kind .vmem S1x1024 .f32).view.ref.isScScratch = false}
    {hsrc : (edgeM b : Memref sig .tc .vmem S1x1024 .f32).view.WordExact} {hdst : (slotM (!b) : Memref sig .tc .vmem S1x1024 .f32).view.WordExact}
    {hsem : DmaTarget.Typed .vmem (.dma (vS (!b))) (.remote (Dev.tc n : Thread nD τ) (slotM (!b) : Memref sig .tc .vmem S1x1024 .f32) (.dma (sS b)) hsc)}
    {α : Type} {Q : α → sProp 𝕄} {k : PUnit → Code F α} (O : CellTallies nD τ sig Unit) (W : Waits sig Unit)
    (f : Buf (Elt F) ((edgeM b : Memref sig .tc .vmem S1x1024 .f32).view.loc (c : Thread nD τ)))
    (hf : ((edgeM b).view.loc (c : Thread nD τ) ↦[(edgeM b).view.set]{fullShare.left} f) ⊢ edgePts m ρ c b) :
    iprop(inv m ρ K c (false, b) ∗ inv m ρ K (nb b c) (true, !b)
        ∗ ((edgeM b).view.loc (c : Thread nD τ) ↦[(edgeM b).view.set]{fullShare.left} f)
        ∗ (slotsInv (F := F) κ (nb b c) ∗ mayWrite (nb b c) (!b))
        ∗ owes (c : Thread nD τ) (O + tallyAt (vC (nb b c) (!b)) () N) W
        ∗ dutyTok ER (sC c b) 0 b ∗ reached ER (sC c b) 0 ∗ dutyTok ER (vC (nb b c) (!b)) 0 (!b) ∗ reached ER (vC (nb b c) (!b)) 0)
      ⊢ iprop(((cred (tallyAt (sC c b) () N) ∗ owes (c : Thread nD τ) O W) -∗ wpc c (k ⟨⟩) Q)
          -∗ wpc c (.op (.enqueueDma (edgeM b) (.remote (Dev.tc n : Thread nD τ) (slotM (!b)) (.dma (sS b)) hsc) (.dma (vS (!b))) hsrc hdst hsem) k) Q) := by
  subst hn
  have hb' : Has (!b) (nb b c) := (has_nb b c).mpr hb
  refine (sep_mono_right (sep_mono_right (sep_mono_right (sep_mono_left (slot_update (F := F) κ (nb b c) (!b) hb' ((edgeM b).view.read (Elt F) f)))))).trans ?_
  exact Rounds.wp_send 𝒱₀ ER (sched m ρ) (c : Thread nD τ) none (κ₁ := K (c, (false, b))) (κ₂ := K (nb b c, (true, !b)))
    (r₁ := 0) (r₂ := 0) (d₁ := b) (d₂ := !b) (R := mayWrite (F := F) (nb b c) (!b))
    ((mem_duties m ρ (sC c b) b).mpr ((due_send c b).mpr hb))
    ((mem_duties m ρ (vC (nb b c) (!b)) (!b)).mpr ((due_recv (nb b c) (!b)).mpr hb'))
    () () N (slot_credit (!b)) (amount_dma m ρ c b false b) (amount_dma m ρ (nb b c) (!b) true (!b)) O rfl (W := W)
    (hf.trans (Entails.of_eq (payload_send m ρ c b).symm)) (Entails.of_eq (payload_recv m ρ (nb b c) (!b)).symm)

/-- What a send takes. -/
abbrev sendRes (κ : Dev nD → ℕ) (c : Dev nD) (b : Bool) : sProp 𝕄 :=
  iprop(inv m ρ K c (false, b) ∗ inv m ρ K (nb b c) (true, !b) ∗ slotsInv (F := F) (κ (nb b c)) (nb b c)
    ∗ reached ER (sC c b) 0 ∗ reached ER (vC (nb b c) (!b)) 0
    ∗ dutyTok ER (sC c b) 0 b ∗ dutyTok ER (vC (nb b c) (!b)) 0 (!b) ∗ edgePts m ρ c b ∗ mayWrite (nb b c) (!b))

/-- Sending the last row up. -/
theorem step_up (κ : Dev nD → ℕ) (c : Dev nD) (p : Prop) [Decidable p] (hp : p ↔ Has true c) (dev : p → Dev nD) (hd : ∀ h, dev h = nb true c)
    (O : CellTallies nD τ sig Unit) (W : Waits sig Unit) (Q : PUnit → sProp 𝕄) :
    iprop((sendRes m ρ K κ c true ∗ owes (c : Thread nD τ) (O + owedRow c true) W)
        ∗ ((owes (c : Thread nD τ) O W ∗ sentOut m ρ c true) -∗ Q ⟨⟩))
      ⊢ wpc c (opIf p fun h => sendUp (dev h)) Q := by
  unfold opIf sentOut owedRow sendRes
  by_cases h : p
  · have hb := hp.mp h
    rw [dif_pos h, if_pos hb, if_pos hb]
    dsimp only
    rw [hd h]
    simp only [Bool.not_true, Bool.not_false]
    unfold edgePts
    iintro ⟨⟨⟨#HI, #HI', #HJ, #Hr, #Hr', Ht, Ht', He, Hw⟩, HO⟩, Hk⟩
    iapply (wp_row m ρ K (κ (nb true c)) c _ true rfl hb O W _ .rfl) $$ [HO Ht Ht' He Hw]
    · isplitr; · iexact HI
      isplitr; · iexact HI'
      isplitl [He]; · iexact He
      isplitl [Hw]
      · isplitr; · iexact HJ
        iexact Hw
      isplitl [HO]; · iexact HO
      isplitl [Ht]; · iexact Ht
      isplitr; · iexact Hr
      isplitl [Ht']; · iexact Ht'
      iexact Hr'
    iintro ⟨Hc, HO⟩
    iapply (wpc_ret c ⟨⟩ Q)
    iapply Hk
    isplitl [HO]; · iexact HO
    iexact Hc
  · have hb : ¬ Has true c := fun h' => h (hp.mpr h')
    rw [dif_neg h, if_neg hb, if_neg hb, add_zero]
    iintro ⟨⟨⟨-, -, -, -, -, -, -, He, -⟩, HO⟩, Hk⟩
    iapply (wpc_ret c ⟨⟩ Q)
    iapply Hk
    isplitl [HO]; · iexact HO
    iexact He

/-- Sending the first row down. -/
theorem step_down (κ : Dev nD → ℕ) (c : Dev nD) (p : Prop) [Decidable p] (hp : p ↔ Has false c) (dev : p → Dev nD) (hd : ∀ h, dev h = nb false c)
    (O : CellTallies nD τ sig Unit) (W : Waits sig Unit) (Q : PUnit → sProp 𝕄) :
    iprop((sendRes m ρ K κ c false ∗ owes (c : Thread nD τ) (O + owedRow c false) W)
        ∗ ((owes (c : Thread nD τ) O W ∗ sentOut m ρ c false) -∗ Q ⟨⟩))
      ⊢ wpc c (opIf p fun h => sendDown (dev h)) Q := by
  unfold opIf sentOut owedRow sendRes
  by_cases h : p
  · have hb := hp.mp h
    rw [dif_pos h, if_pos hb, if_pos hb]
    dsimp only
    rw [hd h]
    simp only [Bool.not_true, Bool.not_false]
    unfold edgePts
    iintro ⟨⟨⟨#HI, #HI', #HJ, #Hr, #Hr', Ht, Ht', He, Hw⟩, HO⟩, Hk⟩
    iapply (wp_row m ρ K (κ (nb false c)) c _ false rfl hb O W _ .rfl) $$ [HO Ht Ht' He Hw]
    · isplitr; · iexact HI
      isplitr; · iexact HI'
      isplitl [He]; · iexact He
      isplitl [Hw]
      · isplitr; · iexact HJ
        iexact Hw
      isplitl [HO]; · iexact HO
      isplitl [Ht]; · iexact Ht
      isplitr; · iexact Hr
      isplitl [Ht']; · iexact Ht'
      iexact Hr'
    iintro ⟨Hc, HO⟩
    iapply (wpc_ret c ⟨⟩ Q)
    iapply Hk
    isplitl [HO]; · iexact HO
    iexact Hc
  · have hb : ¬ Has false c := fun h' => h (hp.mpr h')
    rw [dif_neg h, if_neg hb, if_neg hb, add_zero]
    iintro ⟨⟨⟨-, -, -, -, -, -, -, He, -⟩, HO⟩, Hk⟩
    iapply (wpc_ret c ⟨⟩ Q)
    iapply Hk
    isplitl [HO]; · iexact HO
    iexact He

/-- A wait on one of the four counters of the copies, where a unit is due at it and nothing is owed: its payload. -/
theorem wait_dma (c : Dev nD) (v b : Bool) (hb : Has b c) (W : Waits sig Unit)
    {s s' : Shape} {e e' : EltTy} {src : Memref sig .tc .vmem s e} {dst : Memref sig .tc .vmem s' e'} {hsrc : src.view.WordExact} {hdst : dst.view.WordExact}
    (q : DmaSem sig) (hq : semOf (v, b) = .dma q) (hN : dst.view.dmaCredit = N) {α : Type} (Q : α → sProp 𝕄) (k : PUnit → Code F α) :
    iprop(inv m ρ K c (v, b) ∗ cred (tallyAt (cell c (v, b)) () N) ∗ owes (c : Thread nD τ) 0 W ∗ atPos ER (cell c (v, b)) 0 ∅ 0)
      ⊢ iprop((((∃ W', owes (c : Thread nD τ) 0 W') ∗ atPos ER (cell c (v, b)) (0 + 1) ∅ 0
            ∗ (sched (F := F) m ρ).payload (cell c (v, b)) 0 b) -∗ wpc c (k ⟨⟩) Q)
          -∗ wpc c (.op (.waitDma2 q src dst hsrc hdst) k) Q) := by
  iintro ⟨#HI, Hc, HO, Hat⟩ Hk
  iapply (Rounds.wp_wait_rest_token 𝒱₀ ER (sched m ρ) (c : Thread nD τ) none (κ := K (c, (v, b))) (sm := semOf (v, b))
      (fun X => by rw [hq]; exact wpE_waitDma2_eq 𝒱₀ (c : Thread nD τ) none Set.univ X) (Set.mem_univ _) () (O := 0) (W := W) (R := 0) (m := 0) (T := ∅)
      (by rw [Nat.zero_add, hN]; exact (expect_dma m ρ c b v hb).symm)) $$ [Hc HO Hat]
  · isplitr; · iexact HI
    isplitl [Hc]; · rw [hN]; iexact Hc
    isplitl [HO]; · iexact HO
    isplitr; · rw [MayWait_zero]; iempintro
    iexact Hat
  iintro ⟨HO, Hat, -, Hp⟩
  iapply Hk
  isplitl [HO]; · iexists _; iexact HO
  isplitl [Hat]; · iexact Hat
  iapply (Entails.of_eq (rest_dma m ρ c b v hb)); iexact Hp

/-- A counter's position at the end of the body: its round is over where it had one. -/
def endPos (c : Dev nD) (v b : Bool) : sProp 𝕄 := atPos ER (cell c (v, b)) (if Has b c then 0 + 1 else 0) ∅ 0

/-- At the end every counter of a copy is at zero. -/
theorem close_dma (c : Dev nD) (v b : Bool) :
    iprop(inv m ρ K c (v, b) ∗ endPos c v b) ⊢ iprop(|={Set.univ}=> semVal (cell c (v, b)) 0) := by
  unfold endPos
  refine Rounds.cell_close ER (sched m ρ) (Set.mem_univ (K (c, (v, b)))) (fun h => h) ?_
  intro r hr
  by_cases hb : Has b c
  · rw [if_pos hb] at hr; exact duties_later m ρ _ r hr
  · exact duties_none m ρ _ (fun d hd => hb (due_dma c b hd ▸ (hd.2.1 : Has d c))) r

/-- Waiting for the device's own copy to have left: the share of the row comes back, and the
    counter is at zero. -/
theorem step_sent (c : Dev nD) (b : Bool) (p : Prop) [Decidable p] (hp : p ↔ Has b c) (W : Waits sig Unit)
    {s s' : Shape} {e e' : EltTy} {src : Memref sig .tc .vmem s e} {dst : Memref sig .tc .vmem s' e'} {hsrc : src.view.WordExact} {hdst : dst.view.WordExact}
    (hN : dst.view.dmaCredit = N) (q : DmaSem sig) (hq : sS b = q) (Q : PUnit → sProp 𝕄) :
    iprop((inv m ρ K c (false, b) ∗ sentOut m ρ c b ∗ owes (c : Thread nD τ) 0 W ∗ atPos ER (sC c b) 0 ∅ 0)
        ∗ (((∃ W', owes (c : Thread nD τ) 0 W') ∗ semVal (sC c b) 0 ∗ edgePts m ρ c b) -∗ Q ⟨⟩))
      ⊢ wpc c (opIf p fun _ => Prog.lift (.waitDma2 q src dst hsrc hdst)) Q := by
  subst hq
  unfold opIf sentOut
  have hclose := close_dma m ρ K c false b
  unfold endPos at hclose
  by_cases h : p
  · have hb := hp.mp h
    rw [dif_pos h, if_pos hb]
    rw [if_pos hb] at hclose
    iintro ⟨⟨#HI, Hc, HO, Hat⟩, Hk⟩
    iapply (wait_dma m ρ K c false b hb W (sS b) rfl hN Q (fun x => Prog.ret x)) $$ [Hc HO Hat]
    · isplitr; · iexact HI
      isplitl [Hc]; · iexact Hc
      isplitl [HO]; · iexact HO
      iexact Hat
    iintro ⟨HO, Hat, Hp⟩
    imod hclose $$ [Hat] with Hz
    · isplitr; · iexact HI
      iexact Hat
    iapply (wpc_ret c ⟨⟩ Q)
    iapply Hk
    isplitl [HO]; · iexact HO
    isplitl [Hz]; · iexact Hz
    iapply (Entails.of_eq (payload_send m ρ c b)); iexact Hp
  · have hb : ¬ Has b c := fun h' => h (hp.mpr h')
    rw [dif_neg h, if_neg hb]
    rw [if_neg hb] at hclose
    iintro ⟨⟨#HI, Hc, HO, Hat⟩, Hk⟩
    imod hclose $$ [Hat] with Hz
    · isplitr; · iexact HI
      iexact Hat
    iapply (wpc_ret c ⟨⟩ Q)
    iapply Hk
    isplitl [HO]; · iexists _; iexact HO
    isplitl [Hz]; · iexact Hz
    iexact Hc

end Cert.BareProof

end
-- ==== Proof.Bare.Rows.lean ====
/-
  The steps that compute: the stencil of the block's own rows, and its first and last row. Each theorem says which
  contents the step leaves in the output's staging buffer.
-/
module

public import proofs.«01_k».proof.Proof.Bare.Steps

@[expose] public section

noncomputable section

namespace Cert.BareProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Role → ℕ)

/-- The share of the input block the body loads from. -/
def xHalf (c : Dev nD) : sProp 𝕄 := xM.view.loc (c : Thread nD τ) ↦{fullShare.right} xstg m ρ c

/-- The output's staging buffer holding `f`. -/
def oPts (c : Dev nD) (f : (cc0_stg1_0 : Ref sig .tc).ty.Contents (Elt F)) : sProp 𝕄 := oM.view.loc (c : Thread nD τ) ↦{fullShare} f

/-- What a load of the rectangle `r` of the input block gives. -/
abbrev xrd (c : Dev nD) (r : Rect S2048x1024) : r.shape.Idx → Elt F .f32 := xM.view.readAt (Elt F) r.toLoadRect (xstg m ρ c)

/-- The output after each of the three stores; the first and last row with the row that landed there, whichever it is. -/
def midOut (c : Dev nD) (f : (cc0_stg1_0 : Ref sig .tc).ty.Contents (Elt F)) : (cc0_stg1_0 : Ref sig .tc).ty.Contents (Elt F) :=
  (oM.access q1).write (Elt F) f (k0_pay2 (xrd m ρ c q0) (xrd m ρ c q1) (xrd m ρ c q2)) Finset.univ
def topOut (c : Dev nD) (u : S1x1024.Idx → Elt F .f32) (f : (cc0_stg1_0 : Ref sig .tc).ty.Contents (Elt F)) : (cc0_stg1_0 : Ref sig .tc).ty.Contents (Elt F) :=
  (oM.access r0).write (Elt F) f (if Has false c then k0_pay3 u (xrd m ρ c r0) (xrd m ρ c r1) else k0_pay4 (xrd m ρ c r0)) Finset.univ
def botOut (c : Dev nD) (u : S1x1024.Idx → Elt F .f32) (f : (cc0_stg1_0 : Ref sig .tc).ty.Contents (Elt F)) : (cc0_stg1_0 : Ref sig .tc).ty.Contents (Elt F) :=
  (oM.access r2047).write (Elt F) f (if Has true c then k0_pay5 (xrd m ρ c r2046) (xrd m ρ c r2047) u else k0_pay1 (xrd m ρ c r2047)) Finset.univ

/-- Any row. -/
def someRow (c : Dev nD) : S1x1024.Idx → Elt F .f32 := edgeRow m ρ c true

theorem step_mid (c : Dev nD) (f : (cc0_stg1_0 : Ref sig .tc).ty.Contents (Elt F)) (Q : PUnit → sProp 𝕄) :
    iprop((xHalf m ρ c ∗ oPts c f) ∗ ((xHalf m ρ c ∗ oPts c (midOut m ρ c f)) -∗ Q ⟨⟩)) ⊢ wpc c midStep Q := by
  unfold midStep xHalf oPts midOut
  simp only [Prog.lift, Prog.bind_op, Prog.bind_ret]
  iintro ⟨⟨Hx, Ho⟩, Hk⟩
  iapply (wp_load 𝒱₀ (c : Thread nD τ) none Set.univ (m := xM) (Finset.subset_univ _)) $$ Hx; iintro Hx
  iapply (wp_load 𝒱₀ (c : Thread nD τ) none Set.univ (m := xM) (Finset.subset_univ _)) $$ Hx; iintro Hx
  iapply (wp_load 𝒱₀ (c : Thread nD τ) none Set.univ (m := xM) (Finset.subset_univ _)) $$ Hx; iintro Hx
  iapply (wp_load 𝒱₀ (c : Thread nD τ) none Set.univ (m := oM) (Finset.subset_univ _)) $$ Ho; iintro Ho
  iapply (wp_store 𝒱₀ (c : Thread nD τ) none Set.univ (m := oM) (r := q1) (Mk := Finset.univ) (Finset.subset_univ _)) $$ Ho; iintro Ho
  iapply (wpc_ret c ⟨⟩ Q)
  iapply Hk
  isplitl [Hx]; · iexact Hx
  iexact Ho

/-- The first row of a device that has one before it. -/
theorem step_topHalo (κ : ℕ) (c : Dev nD) (p : Prop) [Decidable p] (hp : p ↔ Has false c) (W : Waits sig Unit)
    (f : (cc0_stg1_0 : Ref sig .tc).ty.Contents (Elt F)) (Q : PUnit → sProp 𝕄) :
    iprop((inv m ρ K c (true, false) ∗ owedIn c false ∗ slotsInv (F := F) κ c ∗ mayTake c false ∗ owes (c : Thread nD τ) 0 W ∗ atPos ER (vC c false) 0 ∅ 0
          ∗ xHalf m ρ c ∗ oPts c f)
        ∗ (((∃ W', owes (c : Thread nD τ) 0 W') ∗ endPos c true false ∗ slotIn (F := F) c false ∗ xHalf m ρ c
          ∗ ∃ u, oPts c (if Has false c then topOut m ρ c u f else f)) -∗ Q ⟨⟩))
      ⊢ wpc c (opIf p fun _ => topHalo) Q := by
  unfold opIf owedIn endPos
  have htake := slot_take (F := F) κ c false
  by_cases h : p
  · have hb := hp.mp h
    rw [if_pos hb] at htake
    rw [dif_pos h, if_pos hb, if_pos hb]
    simp only [if_pos hb]
    unfold xHalf oPts topHalo
    simp only [Prog.lift, Prog.bind_op, Prog.bind_ret]
    iintro ⟨⟨#HI, Hc, #HJ, Ht, HO, Hat, Hx, Ho⟩, Hk⟩
    iapply (wait_dma m ρ K c true false hb W (vS false) rfl (slot_credit false) Q) $$ [Hc HO Hat]
    · isplitr; · iexact HI
      isplitl [Hc]; · iexact Hc
      isplitl [HO]; · iexact HO
      iexact Hat
    iintro ⟨HO, Hat, Hs⟩
    ihave Hs := (Entails.of_eq (payload_recv m ρ c false)) $$ Hs
    imod htake $$ [Ht Hs] with Hs
    · isplitr; · iexact HJ
      isplitl [Ht] <;> iassumption
    unfold slotIn slotPts
    dsimp only
    icases Hs with ⟨%g, Hs⟩
    iapply (wp_load 𝒱₀ (c : Thread nD τ) none Set.univ (m := kM) (r := k0.toLoadRect) (S := (slotM false).view.set)
      (by rw [View.set_slice]; exact Finset.Subset.refl _)) $$ Hs; iintro Hs
    iapply (wp_load 𝒱₀ (c : Thread nD τ) none Set.univ (m := xM) (Finset.subset_univ _)) $$ Hx; iintro Hx
    iapply (wp_load 𝒱₀ (c : Thread nD τ) none Set.univ (m := xM) (Finset.subset_univ _)) $$ Hx; iintro Hx
    iapply (wp_load 𝒱₀ (c : Thread nD τ) none Set.univ (m := oM) (Finset.subset_univ _)) $$ Ho; iintro Ho
    iapply (wp_store 𝒱₀ (c : Thread nD τ) none Set.univ (m := oM) (r := r0) (Mk := Finset.univ) (Finset.subset_univ _)) $$ Ho; iintro Ho
    iapply (wpc_ret c ⟨⟩ Q)
    iapply Hk
    isplitl [HO]; · iexact HO
    isplitl [Hat]; · iexact Hat
    isplitl [Hs]; · iexists g; iexact Hs
    isplitl [Hx]; · iexact Hx
    iexists _; unfold topOut; rw [if_pos hb]; iexact Ho
  · have hb : ¬ Has false c := fun h' => h (hp.mpr h')
    rw [if_neg hb] at htake
    rw [dif_neg h, if_neg hb, if_neg hb]
    simp only [if_neg hb]
    iintro ⟨⟨-, -, #HJ, Ht, HO, Hat, Hx, Ho⟩, Hk⟩
    imod htake $$ [Ht] with Hs
    · isplitr; · iexact HJ
      isplitl [Ht]; · iexact Ht
      iempintro
    iapply (wpc_ret c ⟨⟩ Q)
    iapply Hk
    isplitl [HO]; · iexists W; iexact HO
    isplitl [Hat]; · iexact Hat
    isplitl [Hs]; · iexact Hs
    isplitl [Hx]; · iexact Hx
    iexists (someRow m ρ c); iexact Ho

/-- The first row of the first device. -/
theorem step_topKeep (c : Dev nD) (p : Prop) [Decidable p] (hp : p ↔ ¬ Has false c)
    (u : S1x1024.Idx → Elt F .f32) (f : (cc0_stg1_0 : Ref sig .tc).ty.Contents (Elt F)) (Q : PUnit → sProp 𝕄) :
    iprop((xHalf m ρ c ∗ oPts c (if Has false c then topOut m ρ c u f else f)) ∗ ((xHalf m ρ c ∗ oPts c (topOut m ρ c u f)) -∗ Q ⟨⟩))
      ⊢ wpc c (opIf p fun _ => topKeep) Q := by
  unfold opIf
  by_cases h : p
  · have hb := hp.mp h
    rw [dif_pos h, if_neg hb]
    unfold xHalf oPts topOut topKeep
    rw [if_neg hb]
    simp only [Prog.lift, Prog.bind_op, Prog.bind_ret]
    iintro ⟨⟨Hx, Ho⟩, Hk⟩
    iapply (wp_load 𝒱₀ (c : Thread nD τ) none Set.univ (m := xM) (Finset.subset_univ _)) $$ Hx; iintro Hx
    iapply (wp_load 𝒱₀ (c : Thread nD τ) none Set.univ (m := oM) (Finset.subset_univ _)) $$ Ho; iintro Ho
    iapply (wp_store 𝒱₀ (c : Thread nD τ) none Set.univ (m := oM) (r := r0) (Mk := Finset.univ) (Finset.subset_univ _)) $$ Ho; iintro Ho
    iapply (wpc_ret c ⟨⟩ Q)
    iapply Hk
    isplitl [Hx]; · iexact Hx
    iexact Ho
  · have hb : Has false c := Classical.not_not.mp fun h' => h (hp.mpr h')
    rw [dif_neg h, if_pos hb]
    iintro ⟨H, Hk⟩
    iapply (wpc_ret c ⟨⟩ Q)
    iapply Hk; iexact H

/-- The last row of a device that has one after it. -/
theorem step_botHalo (κ : ℕ) (c : Dev nD) (p : Prop) [Decidable p] (hp : p ↔ Has true c) (W : Waits sig Unit)
    (f : (cc0_stg1_0 : Ref sig .tc).ty.Contents (Elt F)) (Q : PUnit → sProp 𝕄) :
    iprop((inv m ρ K c (true, true) ∗ owedIn c true ∗ slotsInv (F := F) κ c ∗ mayTake c true ∗ owes (c : Thread nD τ) 0 W ∗ atPos ER (vC c true) 0 ∅ 0
          ∗ xHalf m ρ c ∗ oPts c f)
        ∗ (((∃ W', owes (c : Thread nD τ) 0 W') ∗ endPos c true true ∗ slotIn (F := F) c true ∗ xHalf m ρ c
          ∗ ∃ u, oPts c (if Has true c then botOut m ρ c u f else f)) -∗ Q ⟨⟩))
      ⊢ wpc c (opIf p fun _ => botHalo) Q := by
  unfold opIf owedIn endPos
  have htake := slot_take (F := F) κ c true
  by_cases h : p
  · have hb := hp.mp h
    rw [if_pos hb] at htake
    rw [dif_pos h, if_pos hb, if_pos hb]
    simp only [if_pos hb]
    unfold xHalf oPts botHalo
    simp only [Prog.lift, Prog.bind_op, Prog.bind_ret]
    iintro ⟨⟨#HI, Hc, #HJ, Ht, HO, Hat, Hx, Ho⟩, Hk⟩
    iapply (wait_dma m ρ K c true true hb W (vS true) rfl (slot_credit true) Q) $$ [Hc HO Hat]
    · isplitr; · iexact HI
      isplitl [Hc]; · iexact Hc
      isplitl [HO]; · iexact HO
      iexact Hat
    iintro ⟨HO, Hat, Hs⟩
    ihave Hs := (Entails.of_eq (payload_recv m ρ c true)) $$ Hs
    imod htake $$ [Ht Hs] with Hs
    · isplitr; · iexact HJ
      isplitl [Ht] <;> iassumption
    unfold slotIn slotPts
    dsimp only
    icases Hs with ⟨%g, Hs⟩
    iapply (wp_load 𝒱₀ (c : Thread nD τ) none Set.univ (m := xM) (Finset.subset_univ _)) $$ Hx; iintro Hx
    iapply (wp_load 𝒱₀ (c : Thread nD τ) none Set.univ (m := xM) (Finset.subset_univ _)) $$ Hx; iintro Hx
    iapply (wp_load 𝒱₀ (c : Thread nD τ) none Set.univ (m := kM) (r := k1.toLoadRect) (S := (slotM true).view.set)
      (by rw [View.set_slice]; exact Finset.Subset.refl _)) $$ Hs; iintro Hs
    iapply (wp_load 𝒱₀ (c : Thread nD τ) none Set.univ (m := oM) (Finset.subset_univ _)) $$ Ho; iintro Ho
    iapply (wp_store 𝒱₀ (c : Thread nD τ) none Set.univ (m := oM) (r := r2047) (Mk := Finset.univ) (Finset.subset_univ _)) $$ Ho; iintro Ho
    iapply (wpc_ret c ⟨⟩ Q)
    iapply Hk
    isplitl [HO]; · iexact HO
    isplitl [Hat]; · iexact Hat
    isplitl [Hs]; · iexists g; iexact Hs
    isplitl [Hx]; · iexact Hx
    iexists _; unfold botOut; rw [if_pos hb]; iexact Ho
  · have hb : ¬ Has true c := fun h' => h (hp.mpr h')
    rw [if_neg hb] at htake
    rw [dif_neg h, if_neg hb, if_neg hb]
    simp only [if_neg hb]
    iintro ⟨⟨-, -, #HJ, Ht, HO, Hat, Hx, Ho⟩, Hk⟩
    imod htake $$ [Ht] with Hs
    · isplitr; · iexact HJ
      isplitl [Ht]; · iexact Ht
      iempintro
    iapply (wpc_ret c ⟨⟩ Q)
    iapply Hk
    isplitl [HO]; · iexists W; iexact HO
    isplitl [Hat]; · iexact Hat
    isplitl [Hs]; · iexact Hs
    isplitl [Hx]; · iexact Hx
    iexists (someRow m ρ c); iexact Ho

/-- The last row of the last device. -/
theorem step_botKeep (c : Dev nD) (p : Prop) [Decidable p] (hp : p ↔ ¬ Has true c)
    (u : S1x1024.Idx → Elt F .f32) (f : (cc0_stg1_0 : Ref sig .tc).ty.Contents (Elt F)) (Q : PUnit → sProp 𝕄) :
    iprop((xHalf m ρ c ∗ oPts c (if Has true c then botOut m ρ c u f else f)) ∗ ((xHalf m ρ c ∗ oPts c (botOut m ρ c u f)) -∗ Q ⟨⟩))
      ⊢ wpc c (opIf p fun _ => botKeep) Q := by
  unfold opIf
  by_cases h : p
  · have hb := hp.mp h
    rw [dif_pos h, if_neg hb]
    unfold xHalf oPts botOut botKeep
    rw [if_neg hb]
    simp only [Prog.lift, Prog.bind_op, Prog.bind_ret]
    iintro ⟨⟨Hx, Ho⟩, Hk⟩
    iapply (wp_load 𝒱₀ (c : Thread nD τ) none Set.univ (m := xM) (Finset.subset_univ _)) $$ Hx; iintro Hx
    iapply (wp_load 𝒱₀ (c : Thread nD τ) none Set.univ (m := oM) (Finset.subset_univ _)) $$ Ho; iintro Ho
    iapply (wp_store 𝒱₀ (c : Thread nD τ) none Set.univ (m := oM) (r := r2047) (Mk := Finset.univ) (Finset.subset_univ _)) $$ Ho; iintro Ho
    iapply (wpc_ret c ⟨⟩ Q)
    iapply Hk
    isplitl [Hx]; · iexact Hx
    iexact Ho
  · have hb : Has true c := Classical.not_not.mp fun h' => h (hp.mpr h')
    rw [dif_neg h, if_pos hb]
    iintro ⟨H, Hk⟩
    iapply (wpc_ret c ⟨⟩ Q)
    iapply Hk; iexact H

end Cert.BareProof

end
-- ==== Proof.Bare.Local.lean ====
/-
  What the output's staging buffer holds on one device at the end: the three stores cover it, whatever it held before,
  and each element is a stencil of three elements above one another.
-/
module

public import proofs.«01_k».proof.Proof.Bare.Rows
public import Idealize.ShloMosaic.Lib.Pipeline.ValueKit.Geometry
public import Idealize.ShloMosaic.Lib.Pipeline.Value

@[expose] public section

noncomputable section

namespace Cert.BareProof

open Cert.KernelIdeal Cert.KernelIdeal.Gen
open Idealize.ShloMosaic
open Idealize.ShloMosaic.TcCoe

variable {F : FTy → Type} [FloatOps F]
variable (m : (ℓ : Loc nD τ sig) → Buf (Elt F) ℓ) (ρ : Dev nD → PrngReg)

/-- Row `r`, column `j` of a block. -/
def ix (r : ℕ) (hr : r < 2048) (j : Fin 1024) : S2048x1024.Idx := fun
  | ⟨0, _⟩ => (⟨r, hr⟩ : Fin 2048)
  | ⟨1, _⟩ => j

theorem ix_eta (i : S2048x1024.Idx) : i = ix (i 0).val (i 0).isLt (i 1) := by
  funext a
  fin_cases a <;> rfl

/-- A quarter, a half, a quarter of three values, added from the left. -/
def comb (a b d : F .f32) : F .f32 :=
  FloatOps.addf (FloatOps.addf (FloatOps.mulf (Scalar.ofBits .f32 0x3E800000#32) a) (FloatOps.mulf (Scalar.ofBits .f32 0x3F000000#32) b))
    (FloatOps.mulf (Scalar.ofBits .f32 0x3E800000#32) d)

/-- Row `r`, column `j` of the block on device `c`. -/
def xAt (c : Dev nD) (r : ℕ) (hr : r < 2048) (j : Fin 1024) : F .f32 := xstg m ρ c (ix r hr j)

/-- The rows that take nothing from another device: all but a first row with a device before and a last one with a
    device after. -/
def Inside (c : Dev nD) (i : S2048x1024.Idx) : Prop := ((i 0).val = 0 → ¬ Has false c) ∧ ((i 0).val = 2047 → ¬ Has true c)

/-- What device `c` leaves in those: its own stencil, at the two ends the row itself. -/
def outAt (c : Dev nD) : (cc0_stg1_0 : Ref sig .tc).ty.Contents (Elt F) := fun i =>
  if h0 : (i 0).val = 0 then xAt m ρ c 0 (by decide) (i 1)
  else if h1 : (i 0).val = 2047 then xAt m ρ c 2047 (by decide) (i 1)
  else comb (xAt m ρ c ((i 0).val - 1) (by have := (i 0).isLt; change _ < 2048 at this; omega) (i 1))
      (xAt m ρ c (i 0).val (i 0).isLt (i 1))
      (xAt m ρ c ((i 0).val + 1) (by have := (i 0).isLt; change _ < 2048 at this; omega) (i 1))

/-! ## Loads -/

/-- The place in the block of an index of `n` rows from row `a`. -/
theorem place (a n : ℕ) (inb) (j : (Rect.unit (s := S2048x1024) ![a, 0] ![n, 1024] inb).shape.Idx) (h : a + (j 0).val < 2048) :
    (xM.access (Rect.unit (s := S2048x1024) ![a, 0] ![n, 1024] inb)).emb j = ix (a + (j 0).val) h (j 1) := by
  funext d
  refine Fin.ext ?_
  rw [ValueKit.view_emb_slice_whole_unit_val cc0_stg0_0 ![a, 0] ![n, 1024] inb j d]
  fin_cases d
  · rfl
  · exact Nat.zero_add _

/-- The same place, in the output's buffer. -/
theorem place_out (a n : ℕ) (inb) (j : (Rect.unit (s := S2048x1024) ![a, 0] ![n, 1024] inb).shape.Idx) (h : a + (j 0).val < 2048) :
    (oM.access (Rect.unit (s := S2048x1024) ![a, 0] ![n, 1024] inb)).emb j = ix (a + (j 0).val) h (j 1) := by
  funext d
  refine Fin.ext ?_
  rw [ValueKit.view_emb_slice_whole_unit_val cc0_stg1_0 ![a, 0] ![n, 1024] inb j d]
  fin_cases d
  · rfl
  · exact Nat.zero_add _

theorem xrd_apply (c : Dev nD) (a n : ℕ) (inb) (j : (Rect.unit (s := S2048x1024) ![a, 0] ![n, 1024] inb).shape.Idx) (h : a + (j 0).val < 2048) :
    xrd m ρ c (Rect.unit (s := S2048x1024) ![a, 0] ![n, 1024] inb) j = xAt m ρ c (a + (j 0).val) h (j 1) :=
  congrArg (xstg m ρ c) (place a n inb j h)

/-! ## Stores -/

/-- A store into `n` rows from row `a` leaves its value in each of their elements. -/
theorem store_in (a n : ℕ) (inb) (f : (cc0_stg1_0 : Ref sig .tc).ty.Contents (Elt F))
    (w : (Rect.unit (s := S2048x1024) ![a, 0] ![n, 1024] inb).shape.Idx → Elt F .f32) (j : (Rect.unit (s := S2048x1024) ![a, 0] ![n, 1024] inb).shape.Idx)
    (h : a + (j 0).val < 2048) :
    (oM.access (Rect.unit (s := S2048x1024) ![a, 0] ![n, 1024] inb)).write (Elt F) f w Finset.univ (ix (a + (j 0).val) h (j 1)) = w j := by
  rw [← place_out a n inb j h]
  exact View.write_emb_of_mem (v := oM.access (Rect.unit (s := S2048x1024) ![a, 0] ![n, 1024] inb)) f w (Finset.mem_univ j)

/-- And leaves the other rows. -/
theorem store_out (a n : ℕ) (inb) (f : (cc0_stg1_0 : Ref sig .tc).ty.Contents (Elt F))
    (w : (Rect.unit (s := S2048x1024) ![a, 0] ![n, 1024] inb).shape.Idx → Elt F .f32) (i : S2048x1024.Idx) (h : (i 0).val < a ∨ a + n ≤ (i 0).val) :
    (oM.access (Rect.unit (s := S2048x1024) ![a, 0] ![n, 1024] inb)).write (Elt F) f w Finset.univ i = f i := by
  refine View.write_of_not_mem (v := oM.access (Rect.unit (s := S2048x1024) ![a, 0] ![n, 1024] inb)) f w Finset.univ fun hm => ?_
  have hm' : i ∈ ((View.whole cc0_stg1_0).slice (Rect.unit (s := S2048x1024) ![a, 0] ![n, 1024] inb)).set := hm
  rw [View.set_slice_whole] at hm'
  have h2 := Rect.mem_set_unit.mp hm' 0
  change a ≤ (i 0).val ∧ (i 0).val < a + n at h2
  omega

/-! ## The three stores together -/

/-- Column `j` of a one-row array. -/
def row1 (j : Fin 1024) : S1x1024.Idx := fun
  | ⟨0, _⟩ => (⟨0, by decide⟩ : Fin 1)
  | ⟨1, _⟩ => j
theorem row1_lt (a : ℕ) (h : a < 2048) (j : Fin 1024) : a + (row1 j 0).val < 2048 := h
/-- Row `r`, column `j` of the middle rows. -/
def mid (r : ℕ) (hr : r < 2046) (j : Fin 1024) : S2046x1024.Idx := fun
  | ⟨0, _⟩ => (⟨r, hr⟩ : Fin 2046)
  | ⟨1, _⟩ => j

theorem xAt_congr (c : Dev nD) {r r' : ℕ} (h : r = r') (hr : r < 2048) (hr' : r' < 2048) (j : Fin 1024) : xAt m ρ c r hr j = xAt m ρ c r' hr' j := by
  subst h; rfl

theorem pay3_apply (a b d : Vec F S1x1024 .f32) (j : S1x1024.Idx) : k0_pay3 a b d j = comb (a j) (b j) (d j) := by
  unfold k0_pay3
  simp only [shapeCast_self]
  rfl
theorem pay5_apply (a b d : Vec F S1x1024 .f32) (j : S1x1024.Idx) : k0_pay5 a b d j = comb (a j) (b j) (d j) := by
  unfold k0_pay5
  simp only [shapeCast_self]
  rfl
theorem pay2_apply (a b d : Vec F S2046x1024 .f32) (j : S2046x1024.Idx) : k0_pay2 a b d j = comb (a j) (b j) (d j) := by
  unfold k0_pay2
  simp only [shapeCast_self]
  rfl
theorem pay4_apply (a : Vec F S1x1024 .f32) (j : S1x1024.Idx) : k0_pay4 a j = a j := by
  unfold k0_pay4
  simp only [shapeCast_self]
theorem pay1_apply (a : Vec F S1x1024 .f32) (j : S1x1024.Idx) : k0_pay1 a j = a j := by
  unfold k0_pay1
  simp only [shapeCast_self]

/-- The last row of the last device. -/
theorem bot_row (c : Dev nD) (hb : ¬ Has true c) (u : S1x1024.Idx → Elt F .f32) (f : (cc0_stg1_0 : Ref sig .tc).ty.Contents (Elt F)) (j : Fin 1024) :
    botOut m ρ c u f (ix 2047 (by decide) j) = xAt m ρ c 2047 (by decide) j := by
  unfold botOut
  refine (store_in 2047 1 inb_S2048x1024_S1x1024_2047_0 f _ (row1 j) (row1_lt _ (by decide) j)).trans ?_
  rw [if_neg hb, pay1_apply]
  exact xrd_apply m ρ c 2047 1 inb_S2048x1024_S1x1024_2047_0 (row1 j) (row1_lt _ (by decide) j)

/-- The first row of the first device. -/
theorem top_row (c : Dev nD) (hb : ¬ Has false c) (u : S1x1024.Idx → Elt F .f32) (f : (cc0_stg1_0 : Ref sig .tc).ty.Contents (Elt F)) (j : Fin 1024) :
    topOut m ρ c u f (ix 0 (by decide) j) = xAt m ρ c 0 (by decide) j := by
  unfold topOut
  refine (store_in 0 1 inb_S2048x1024_S1x1024_0_0 f _ (row1 j) (row1_lt _ (by decide) j)).trans ?_
  rw [if_neg hb, pay4_apply]
  exact xrd_apply m ρ c 0 1 inb_S2048x1024_S1x1024_0_0 (row1 j) (row1_lt _ (by decide) j)

/-- The rows of the first store. -/
theorem mid_row (c : Dev nD) (f : (cc0_stg1_0 : Ref sig .tc).ty.Contents (Elt F)) (r : ℕ) (hr : r < 2046) (j : Fin 1024) :
    midOut m ρ c f (ix (1 + r) (by omega) j)
      = comb (xAt m ρ c r (by omega) j) (xAt m ρ c (1 + r) (by omega) j) (xAt m ρ c (2 + r) (by omega) j) := by
  unfold midOut
  refine (store_in 1 2046 inb_S2048x1024_S2046x1024_1_0 f _ (mid r hr j) (by change 1 + r < 2048; omega)).trans ?_
  rw [pay2_apply]
  have e0 := xrd_apply m ρ c 0 2046 inb_S2048x1024_S2046x1024_0_0 (mid r hr j) (by change 0 + r < 2048; omega)
  have e1 := xrd_apply m ρ c 1 2046 inb_S2048x1024_S2046x1024_1_0 (mid r hr j) (by change 1 + r < 2048; omega)
  have e2 := xrd_apply m ρ c 2 2046 inb_S2048x1024_S2046x1024_2_0 (mid r hr j) (by change 2 + r < 2048; omega)
  exact congr (congrArg₂ comb (e0.trans (xAt_congr m ρ c (Nat.zero_add r) _ _ j)) e1) e2

/-- Whatever the buffer held and whatever landed, after the three stores it holds `outAt` in those rows. -/
theorem out_eq (c : Dev nD) (u v : S1x1024.Idx → Elt F .f32) (f : (cc0_stg1_0 : Ref sig .tc).ty.Contents (Elt F))
    (i : S2048x1024.Idx) (hin : Inside c i) : botOut m ρ c v (topOut m ρ c u (midOut m ρ c f)) i = outAt m ρ c i := by
  obtain ⟨r, hi, j, rfl⟩ : ∃ (r : ℕ) (hi : r < 2048) (j : Fin 1024), i = ix r hi j := ⟨_, _, _, ix_eta i⟩
  unfold outAt
  by_cases h1 : r = 2047
  · subst h1
    rw [bot_row m ρ c (hin.2 rfl)]
    rfl
  · have e1 : botOut m ρ c v (topOut m ρ c u (midOut m ρ c f)) (ix r hi j) = topOut m ρ c u (midOut m ρ c f) (ix r hi j) :=
      store_out 2047 1 inb_S2048x1024_S1x1024_2047_0 _ _ (ix r hi j) (by change r < 2047 ∨ _; omega)
    by_cases h0 : r = 0
    · subst h0
      rw [e1, top_row m ρ c (hin.1 rfl)]
      rfl
    · have e0 : topOut m ρ c u (midOut m ρ c f) (ix r hi j) = midOut m ρ c f (ix r hi j) :=
        store_out 0 1 inb_S2048x1024_S1x1024_0_0 _ _ (ix r hi j) (by change _ ∨ 0 + 1 ≤ r; omega)
      rw [e1, e0]
      obtain ⟨k, rfl⟩ : ∃ k, r = 1 + k := ⟨r - 1, by omega⟩
      rw [mid_row m ρ c f k (by omega) j, dif_neg (show ¬ ((ix (1 + k) hi j) 0).val = 0 from h0), dif_neg (show ¬ ((ix (1 + k) hi j) 0).val = 2047 from h1)]
      refine congr (congrArg₂ comb (xAt_congr m ρ c ?_ _ _ j) rfl) (xAt_congr m ρ c ?_ _ _ j)
      · change k = 1 + k - 1; omega
      · change 2 + k = 1 + k + 1; omega

end Cert.BareProof

end
-- ==== Proof.Bare.State.lean ====
/-
  What a device's body starts from and ends with. The parts that concern one of its two sides are written once, for a
  direction.
-/
module

public import proofs.«01_k».proof.Proof.Bare.Local
public import Idealize.ShloMosaic.Lib.Pipeline.DatRel

@[expose] public section

noncomputable section

namespace Cert.BareProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat BodyObligationRel)

variable {F : FTy → Type} [FloatOps F]

local notation "𝕄" => MT nD τ sig Unit (Elt F) ℕ UU ℕ

variable (m : (ℓ : Loc nD τ sig) → Buf (Elt F) ℓ) (ρ : Dev nD → PrngReg)

section Held
variable (K : Dev nD × Role → ℕ) (κ : Dev nD → ℕ) (c : Dev nD)

/-- What device `c` knows about its side `b`: the invariants of its two counters there, of the neighbour's that it raises, and
    of the neighbour's landing rows. -/
def sideInv (b : Bool) : sProp 𝕄 :=
  iprop(inv m ρ K c (false, b) ∗ inv m ρ K c (true, b) ∗ inv m ρ K (nb b c) (true, !b) ∗ slotsInv (F := F) (κ (nb b c)) (nb b c)
    ∗ reached ER (sC c b) 0 ∗ reached ER (vC (nb b c) (!b)) 0)

instance sideInv_persistent (b : Bool) : BI.Persistent (sideInv m ρ K κ c b) := by unfold sideInv; infer_instance

/-- What it holds for that side: where it stands at its two counters, the right to raise once each its own send counter and
    the neighbour's receive counter, and the leave to write the neighbour's landing row. -/
def sideHold (b : Bool) : sProp 𝕄 :=
  iprop((atPos ER (sC c b) 0 ∅ 0 ∗ atPos ER (vC c b) 0 ∅ 0)
    ∗ dutyTok ER (sC c b) 0 b ∗ dutyTok ER (vC (nb b c) (!b)) 0 (!b) ∗ mayWrite (nb b c) (!b))

/-- Everything the exchange's bookkeeping gives device `c`, but the leave to take its own landing rows. -/
def ghost : sProp 𝕄 :=
  iprop((slotsInv (F := F) (κ c) c ∗ sideInv m ρ K κ c true ∗ sideInv m ρ K κ c false) ∗ sideHold c true ∗ sideHold c false)

/-- That leave, for both rows. -/
def mayTakes : sProp 𝕄 := iprop(mayTake (F := F) c true ∗ mayTake c false)

/-- The credits for what comes to it: each neighbour's row. -/
def credits : sProp 𝕄 := iprop(owedIn c true ∗ owedIn c false)

/-- The landing buffer, whatever it holds. -/
def landing : sProp 𝕄 := iprop(∃ f : (cc0_scratch0 : Ref sig .tc).ty.Contents (Elt F), ((c : Thread nD τ).loc cc0_scratch0) ↦{fullShare} f)

/-- At the start. -/
def start : sProp 𝕄 := iprop((∃ K κ, ghost m ρ K κ c ∗ mayTakes (F := F) c) ∗ credits c)

/-- A device's four counters at zero. -/
def zeros : sProp 𝕄 := iprop((semVal (sC c true) 0 ∗ semVal (sC c false) 0) ∗ (semVal (vC c true) 0 ∗ semVal (vC c false) 0))

/-- At the end. -/
def Φ₁ : sProp 𝕄 := iprop(landing (F := F) c ∗ zeros c)

end Held

/-- The pipeline's two windows on device `c`: the input block goes in and stays, the stencil comes out. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => start m ρ c
    | ⟨_ + 1, _⟩ => Φ₁ (F := F) c
  q _ := fullShare
  owed t := match t with
    | ⟨0, _⟩ => O₀ c
    | ⟨_ + 1, _⟩ => 0

/-- Of the output window only the rows of `Inside` are said. -/
abbrev outputs : Fin cfg0.W → Bool := fun w => match w with
  | ⟨0, _⟩ => false
  | ⟨_ + 1, _⟩ => true
def leavesOut (c : Dev nD) (w : Fin cfg0.W) (_ : Fin cfg0.N) : ((cfg0.win w).block.Idx → Elt F (cfg0.win w).elt) → Prop := match w with
  | ⟨0, _⟩ => fun _ => True
  | ⟨1, _⟩ => fun X => ∀ i, Inside c i → X i = outAt m ρ c i

/-- The same data with the output window held to that. -/
def rdats (p : Fin 1) (c : Dev nD) : RDat τ (Elt F) Unit ℕ UU ℕ cfg0 c := (dats m ρ p c).toRRel outputs (leavesOut m ρ c)

/-! ## The input block's shares -/

/-- The places of the row sent in direction `b`. -/
def edgeSet : Bool → Finset S2048x1024.Idx
  | true => (edgeM true).view.set
  | false => (edgeM false).view.set

/-- The places of the landing row for direction `b`. -/
def slotSet : Bool → Finset S2x1024.Idx
  | true => (slotM true).view.set
  | false => (slotM false).view.set

theorem edge_disjoint : Disjoint (edgeSet true) (edgeSet false) := by
  show Disjoint ((View.whole cc0_stg0_0).slice r2047).set ((View.whole cc0_stg0_0).slice r0).set
  rw [View.set_slice_whole, View.set_slice_whole]
  exact Rect.unit_disjoint 0 (Or.inr (by decide))

theorem slot_disjoint : Disjoint (slotSet true) (slotSet false) := by
  show Disjoint ((View.whole cc0_scratch0).slice k1).set ((View.whole cc0_scratch0).slice k0).set
  rw [View.set_slice_whole, View.set_slice_whole]
  exact Rect.unit_disjoint 0 (Or.inr (by decide))

theorem slot_cover : slotSet true ∪ slotSet false = Finset.univ := by
  show ((View.whole cc0_scratch0).slice k1).set ∪ ((View.whole cc0_scratch0).slice k0).set = Finset.univ
  rw [View.set_slice_whole, View.set_slice_whole]
  refine Finset.eq_univ_of_forall fun i => Finset.mem_union.mpr ?_
  have h0 : (i 0).val < 2 := (i 0).isLt
  have h1 : (i 1).val < 1024 := (i 1).isLt
  by_cases h : (i 0).val = 0
  · refine .inr (Rect.mem_set_unit.mpr fun a => ?_)
    fin_cases a
    · change 0 ≤ (i 0).val ∧ (i 0).val < 0 + 1; omega
    · change 0 ≤ (i 1).val ∧ (i 1).val < 0 + 1024; omega
  · refine .inl (Rect.mem_set_unit.mpr fun a => ?_)
    fin_cases a
    · change 1 ≤ (i 0).val ∧ (i 0).val < 1 + 1; omega
    · change 0 ≤ (i 1).val ∧ (i 1).val < 0 + 1024; omega

/-- The left share of the rows that are not sent. -/
def xRest (c : Dev nD) : sProp 𝕄 :=
  xM.view.loc (c : Thread nD τ) ↦[(Finset.univ \ edgeSet true) \ edgeSet false]{fullShare.left} xstg m ρ c

theorem x_split (c : Dev nD) :
    (((c : Thread nD τ).loc cc0_stg0_0) ↦{fullShare} xstg m ρ c : sProp 𝕄)
      ⊣⊢ iprop((edgePts m ρ c true ∗ edgePts m ρ c false ∗ xRest m ρ c) ∗ xHalf m ρ c) := by
  refine (pointsTo_share (PosShare.mem_left_op_right fullShare)).trans ?_
  refine sep_congr ?_ (.of_eq rfl)
  refine (pointsTo_split_subset (Finset.subset_univ (edgeSet true))).trans (sep_congr (.of_eq rfl) ?_)
  exact pointsTo_split_subset (Finset.subset_sdiff.mpr ⟨Finset.subset_univ _, edge_disjoint.symm⟩)

/-! ## The landing buffer's rows -/

theorem slotPts_eq (c : Dev nD) (b : Bool) (f : (cc0_scratch0 : Ref sig .tc).ty.Contents (Elt F)) :
    (slotPts c b f : sProp 𝕄) = (((c : Thread nD τ).loc cc0_scratch0) ↦[slotSet b]{fullShare} f) := by
  cases b <;> rfl

theorem slots_split (c : Dev nD) : (landing c : sProp 𝕄) ⊢ iprop((∃ f, slotPts c true f) ∗ ∃ f, slotPts c false f) := by
  unfold landing
  iintro ⟨%f, H⟩
  rw [← slot_cover]
  ihave H := (pointsTo_union slot_disjoint).1 $$ H
  icases H with ⟨H1, H0⟩
  isplitl [H1]
  · iexists f; rw [slotPts_eq]; iexact H1
  · iexists f; rw [slotPts_eq]; iexact H0

theorem slots_join (c : Dev nD) : iprop((∃ f, slotPts c true f) ∗ ∃ f, slotPts c false f) ⊢ (landing c : sProp 𝕄) := by
  have h (f g : (cc0_scratch0 : Ref sig .tc).ty.Contents (Elt F)) : iprop(slotPts c true f ∗ slotPts c false g) ⊢ (landing c : sProp 𝕄) := by
    rw [slotPts_eq, slotPts_eq]
    refine (pointsTo_join slot_disjoint).trans ?_
    rw [slot_cover]
    unfold landing
    iintro H
    iexists _; iexact H
  iintro ⟨⟨%f, H1⟩, %g, H0⟩
  iapply (h f g)
  isplitl [H1]; · iexact H1
  iexact H0

end Cert.BareProof

end
-- ==== Proof.Bare.Enter.lean ====
/-
  Entering the kernel. A device gives up its scoped storage there for one moment and gets it back with contents nobody
  chose. Here its landing rows lie in an invariant by then, for a neighbour may already be writing them: the invariant
  is opened for that moment, the rows are taken from it and put back.
-/
module

public import proofs.«01_k».proof.Proof.Bare.State
public import Idealize.ShloMosaic.Lib.Pipeline.Launch

@[expose] public section

noncomputable section

namespace Cert.BareProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat PCfg)

variable {F : FTy → Type} [FloatOps F]

local notation "𝕄" => MT nD τ sig Unit (Elt F) ℕ UU ℕ

variable (m : (ℓ : Loc nD τ sig) → Buf (Elt F) ℓ) (ρ : Dev nD → PrngReg)

/-! ## The scoped storage out of an invariant -/

/-- The staging buffers of device `c`. -/
abbrev staging (c : Dev nD) : sProp 𝕄 := Dat.staging cfg0 c

omit [FloatOps F] in
theorem scoped_eq (c : Dev nD) : (scopedBufs (c : Thread nD τ) : sProp 𝕄) = iprop(staging c ∗ landing c) := by
  rw [Pipeline.PerCore.scopedBufs_split (fun _ => cfgs) (0 : Fin 1) c winFacts0.to₀.stage_scoped winFacts0.to₀.stage_inj stage_whole0]
  exact congrArg (fun R => iprop(staging c ∗ R)) (scopedRest0_eq c)

/-- What device `c` brings to the entry and what it has after it. -/
def bring (c : Dev nD) : sProp 𝕄 := iprop(staging c ∗ start m ρ c)

theorem bring_scoped (c : Dev nD) (Q : sProp 𝕄) :
    iprop(bring m ρ c ∗ (bring m ρ c -∗ Q)) ⊢ atomically frame (Set.univ : Set ℕ) (scopedSpec (c : Thread nD τ)) (fun _ => Q) := by
  unfold bring start
  iintro ⟨⟨Hst, ⟨%K, %κ, Hg, Ht⟩, Hc⟩, HQ⟩
  iapply (atomically_intro_at frame (Set.univ : Set ℕ) (Set.univ \ {κ c}) (scopedSpec (c : Thread nD τ)) (fun _ => Q))
  unfold ghost mayTakes
  icases Hg with ⟨⟨#HJ, Hi⟩, Hh⟩
  icases Ht with ⟨Ht1, Ht0⟩
  imod (inv_acc (Set.mem_univ (κ c))) $$ HJ with ⟨⟨H1, H0⟩, Hclose⟩
  imodintro
  ihave H1 := (shared_take (F := F) c true) $$ [H1 Ht1]
  · isplitl [H1] <;> iassumption
  ihave H0 := (shared_take (F := F) c false) $$ [H0 Ht0]
  · isplitl [H0] <;> iassumption
  icases H1 with ⟨H1, Ht1⟩
  icases H0 with ⟨H0, Ht0⟩
  rw [scopedSpec_apply, scoped_eq]
  isplitl [Hst H1 H0]
  · isplitl [Hst]; · iexact Hst
    iapply (slots_join (F := F) c)
    unfold slotIn
    isplitl [H1]; · iexact H1
    iexact H0
  iintro ⟨Hst, Hl⟩
  ihave Hl := (slots_split (F := F) c) $$ Hl
  icases Hl with ⟨H1, H0⟩
  ihave Hcl := Hclose $$ [H1 H0]
  · unfold shared
    isplitl [H1]
    · ileft; iexact H1
    · ileft; iexact H0
  imod Hcl
  imodintro
  iapply HQ
  isplitl [Hst]; · iexact Hst
  isplitr [Hc]
  · iexists K, κ
    isplitl [Hi Hh]
    · isplitl [Hi]
      · isplitr; · iexact HJ
        iexact Hi
      · iexact Hh
    isplitl [Ht1] <;> iassumption
  · iexact Hc

/-! ## The entry of a kernel for any holder of the scoped storage -/

section Entry
variable {Λ : Labels} {defs : Defs nD τ sig (Elt F) Λ} (𝒱 : Variants) (t : Thread nD τ) (bd : Option 𝒱.V) (Γ : PendingWaitsCtx sig Unit)

/-- The end of a kernel, told of the program that is left there. -/
theorem exit_told {β : Type} (v : Option 𝒱.V) (Δ : PendingWaitsCtx sig Unit) (r : β) (Ψ : β → sProp 𝕄) :
    kernelExitSpec t (fun _ => Ψ r) ⊢ wp frame (wpE' defs 𝒱 t v Δ) Set.univ (.op .kernelExit fun _ => .ret r) Ψ := by
  rw [wp_op, wpE_kernelExit_eq]
  have h (x : PUnit) : Ψ r ⊢ wp frame (wpE' defs 𝒱 t v Δ) Set.univ (.ret r) Ψ := by rw [wp_ret]; exact fupd_intro
  exact BIBase.Entails.trans ((kernelExitSpec t).mono h) fupd_intro

/-- A call that enters a kernel: whoever can give up the scoped storage for the moment of the entry, out of `P`, goes on with what
    `R` it has then, in the kernel's body. -/
theorem wp_enter {P R : sProp 𝕄} (h : ∀ Q, iprop(P ∗ (R -∗ Q)) ⊢ atomically frame (Set.univ : Set ℕ) (scopedSpec t) (fun _ => Q))
    {ℓ : Λ.Label} {a : Λ.Args ℓ} {α : Type} {k : Λ.Result ℓ → Prog (TpuEff nD τ sig (Elt F) Λ t.2) α} {Ψ : α → sProp 𝕄}
    (v : 𝒱.V) (hv : ∀ u ∈ bd, 𝒱.lt v u) :
    iprop(P ∗ (R -∗ wp frame (wpE' defs 𝒱 t (some v) (Γ.descend none)) Set.univ (defs t.2 ℓ a) fun r =>
        kernelExitSpec t fun _ => wp frame (wpE' defs 𝒱 t bd Γ) Set.univ (k r) Ψ))
      ⊢ wp frame (wpE' defs 𝒱 t bd Γ) Set.univ (.op (.customCall ℓ a) k) Ψ := by
  rw [wp_op, wpE'_customCall_eq]
  refine BIBase.Entails.trans ?_ fupd_intro
  refine BIBase.Entails.trans (sep_mono_right (wand_mono_right ?_)) (h _)
  refine BIBase.Entails.trans ?_ (callArm_descend 𝒱 t bd Set.univ Γ true _)
  simp only [bodyOf, wp_bind]
  iintro H
  iexists v
  isplitr; · ipureintro; exact hv
  have hx (r : Λ.Result ℓ) := exit_told (defs := defs) 𝒱 t (some v) (Γ.descend none) r fun x => wp frame (wpE' defs 𝒱 t bd Γ) Set.univ (k x) Ψ
  iapply (wp_mono frame _ Set.univ hx)
  iexact H

end Entry

end Cert.BareProof

end
-- ==== Proof.Bare.Tokens.lean ====
/-
  Before the devices start: the bookkeeping of the exchange is minted and dealt, the counters go into their invariants and
  so do the landing rows of every device, all of them before any device runs. What a device needs of its neighbours' it
  gets there and then.
-/
module

public import proofs.«01_k».proof.Proof.Bare.Enter
public import Idealize.ShloMosaic.Lib.Pipeline.CollectiveSegs

@[expose] public section

noncomputable section

namespace Cert.BareProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens at the start -/

theorem cell_inj : Function.Injective (fun e : Dev nD × Role => cell e.1 e.2) := by
  rintro ⟨c, k⟩ ⟨c', k'⟩ h
  have h1 : c = c' := congrArg (fun g : GSem nD τ sig => g.1.1) h
  have h2 : k = k' := semOf_inj (congrArg Prod.snd h)
  rw [h1, h2]

/-- Every device's four counters. -/
def allCells : Finset (GSem nD τ sig) := Finset.univ.map ⟨fun e : Dev nD × Role => cell e.1 e.2, cell_inj⟩

/-- A side has four tokens. Of each: whether it stands with the receive counter, for which round, and whether it bears the
    other side's name. -/
abbrev tokSpec : Fin 4 → Bool × ℕ × Bool
  | 0 => (false, 0, false)
  | 1 => (true, 0, false)
  | 2 => (true, 1, false)
  | 3 => (true, 1, true)

abbrev tokAt (e : (Dev nD × Bool) × Fin 4) : GSem nD τ sig × ℕ × Bool :=
  (cell e.1.1 ((tokSpec e.2).1, e.1.2), (tokSpec e.2).2.1, xor (tokSpec e.2).2.2 e.1.2)

theorem tokAt_inj : Function.Injective tokAt := by
  rintro ⟨⟨c, b⟩, j⟩ ⟨⟨c', b'⟩, j'⟩ h
  have hg := cell_inj (a₁ := (c, ((tokSpec j).1, b))) (a₂ := (c', ((tokSpec j').1, b'))) (congrArg Prod.fst h)
  have hc : c = c' := congrArg Prod.fst hg
  have hv : (tokSpec j).1 = (tokSpec j').1 := congrArg (fun x => x.2.1) hg
  have hb : b = b' := congrArg (fun x => x.2.2) hg
  have hr : (tokSpec j).2.1 = (tokSpec j').2.1 := congrArg (fun x => x.2.1) h
  have hn : xor (tokSpec j).2.2 b = xor (tokSpec j').2.2 b' := congrArg (fun x => x.2.2) h
  subst hb hc
  have hj : j = j' := (by decide : ∀ (b : Bool) (j j' : Fin 4), (tokSpec j).1 = (tokSpec j').1 → (tokSpec j).2.1 = (tokSpec j').2.1
    → xor (tokSpec j).2.2 b = xor (tokSpec j').2.2 b → j = j') b j j' hv hr hn
  rw [hj]

def allToks : Finset (GSem nD τ sig × ℕ × Bool) := Finset.univ.map ⟨tokAt, tokAt_inj⟩

/-- The ghost state the launch starts from. -/
def u₀ : UU := (initOf (Pipeline.cells cfgs cellOf_inj) (Pipeline.launchToks cfgs cellOf_inj), initOf allCells allToks)

/-- A side's four tokens as they start: with the device whose counters and landing row they are for. -/
def ownToks (c : Dev nD) (b : Bool) : sProp 𝕄 :=
  iprop(dutyTok ER (sC c b) 0 b ∗ dutyTok ER (vC c b) 0 b ∗ mayWrite c b ∗ mayTake c b)
/-- And as they are used: two of them by the device that faces it across the link. -/
def useToks (c : Dev nD) (b : Bool) : sProp 𝕄 :=
  iprop(dutyTok ER (sC c b) 0 b ∗ dutyTok ER (vC (nb b c) (!b)) 0 (!b) ∗ mayWrite (nb b c) (!b) ∗ mayTake c b)

/-- What the launch gives device `c` of the exchange's bookkeeping. -/
def G (c : Dev nD) : sProp 𝕄 :=
  iprop((bigSep Finset.univ fun k : Role => roundState ER (sched m ρ) (cell c k) 0)
    ∗ (bigSep Finset.univ fun k : Role => iprop(atPos ER (cell c k) 0 ∅ 0 ∗ reached ER (cell c k) 0)) ∗ bigSep Finset.univ fun b : Bool => ownToks c b)

omit [FloatOps F] in
theorem bigSep_roles (Φ : Role → sProp 𝕄) :
    bigSep Finset.univ Φ = iprop(Φ (false, true) ∗ Φ (false, false) ∗ Φ (true, true) ∗ Φ (true, false)) :=
  bigSep_univ_eq_bigSepL [(false, true), (false, false), (true, true), (true, false)] (by decide) (by decide) Φ
omit [FloatOps F] in
theorem bigSep_bool (Φ : Bool → sProp 𝕄) : bigSep Finset.univ Φ = iprop(Φ true ∗ Φ false) :=
  bigSep_univ_eq_bigSepL [true, false] (by decide) (by decide) Φ
omit [FloatOps F] in
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
theorem toks_side (c : Dev nD) (b : Bool) :
    (bigSep Finset.univ fun j : Fin 4 => (dutyTok ER (tokAt ((c, b), j)).1 (tokAt ((c, b), j)).2.1 (tokAt ((c, b), j)).2.2 : sProp 𝕄)) = ownToks c b := by
  rw [bigSep_four]
  unfold ownToks mayWrite mayTake
  cases b <;> rfl

/-- The bookkeeping minted at the start, dealt to the devices. -/
theorem deal : BI.own (ER (initOf allCells allToks)) ⊢ (|==> bigSep Finset.univ (G m ρ) : sProp 𝕄) := by
  have hC (Φ : GSem nD τ sig → sProp 𝕄) : bigSep allCells Φ = bigSep Finset.univ fun c : Dev nD => bigSep Finset.univ fun k : Role => Φ (cell c k) := by
    unfold allCells
    rw [bigSep_map, bigSep_univ_prod]
    rfl
  have hT : bigSep allToks (fun x => (dutyTok ER x.1 x.2.1 x.2.2 : sProp 𝕄)) = bigSep Finset.univ fun c : Dev nD => bigSep Finset.univ fun b : Bool => ownToks c b := by
    unfold allToks
    rw [bigSep_map, bigSep_univ_prod, bigSep_univ_prod]
    exact bigSep_congr fun c _ => bigSep_congr fun b _ => toks_side c b
  iintro H
  imod (Rounds.fund ER (sched m ρ) allCells allToks) $$ H with ⟨Hst, Hr, Hat, Htok⟩
  imodintro
  ihave Hst := (Entails.of_eq (hC fun g => roundState ER (sched m ρ) g 0)) $$ Hst
  ihave Hat := (Entails.of_eq (hC fun g => atPos ER g 0 ∅ 0)) $$ Hat
  ihave Hr := (Entails.of_eq (hC fun g => reached ER g 0)) $$ Hr
  ihave Htok := (Entails.of_eq hT) $$ Htok
  unfold G
  simp only [bigSep_sep']
  isplitl [Hst]; · iexact Hst
  isplitl [Hat Hr]
  · isplitl [Hat] <;> iassumption
  iexact Htok

/-! ## The invariants -/

/-- The kernel's own scoped counters. -/
def osem : Fin 4 → SemLoc sig
  | 0 => semOf (false, true)
  | 1 => semOf (false, false)
  | 2 => semOf (true, true)
  | 3 => semOf (true, false)

theorem ownSemFacts : Pipeline.OwnSemFacts cfg0.spec osem := by decide

/-- The kernel's own counters of device `c`, at zero. -/
abbrev ownZeros (c : Dev nD) : sProp 𝕄 := Pipeline.ownSems0 (Ix := Unit) (Name := ℕ) (U := UU) (Lvl := ℕ) (Val := Elt F) (τ := τ) osem c

omit [FloatOps F] in
theorem ownSems_eq (c : Dev nD) : (ownZeros c : sProp 𝕄) = iprop(semVal (sC c true) 0 ∗ semVal (sC c false) 0 ∗ semVal (vC c true) 0 ∗ semVal (vC c false) 0) := by
  unfold ownZeros
  rw [Pipeline.ownSems0_eq_of_list c osem [0, 1, 2, 3] (by decide) (by decide)]; rfl

omit [FloatOps F] in
theorem zeros_iff (c : Dev nD) : (zeros c : sProp 𝕄) ⊣⊢ ownZeros c := by
  rw [ownSems_eq]
  unfold zeros
  exact sep_assoc

/-- The four counters' invariants and the landing rows' are made on each device. -/
theorem make_inv (c : Dev nD) :
    iprop(ownZeros c ∗ landing c ∗ G m ρ c)
      ⊢ |={Set.univ}=> iprop((bigSep Finset.univ fun k : Role => iprop(∃ κ : ℕ, cellInv ER (sched m ρ) κ (cell c k)))
          ∗ (∃ κ : ℕ, slotsInv (F := F) κ c)
          ∗ (bigSep Finset.univ fun k : Role => iprop(atPos ER (cell c k) 0 ∅ 0 ∗ reached ER (cell c k) 0)) ∗ bigSep Finset.univ fun b : Bool => ownToks c b) := by
  have hmk : iprop((bigSep Finset.univ fun k : Role => semVal (cell c k) 0) ∗ bigSep Finset.univ fun k : Role => roundState ER (sched m ρ) (cell c k) 0)
      ⊢ (|={Set.univ}=> bigSep Finset.univ fun k : Role => iprop(∃ κ : ℕ, cellInv ER (sched m ρ) κ (cell c k)) : sProp 𝕄) := by
    rw [← bigSep_sep']
    exact (bigSep_mono fun k _ => (Rounds.body_intro ER (sched m ρ) (cell c k)).trans inv_alloc).trans (bigSep_fupd _ _)
  have hrows : (landing c : sProp 𝕄) ⊢ iprop(shared (F := F) c true ∗ shared (F := F) c false) := by
    unfold shared
    iintro H
    ihave H := (slots_split (F := F) c) $$ H
    icases H with ⟨H1, H0⟩
    isplitl [H1]
    · ileft; iexact H1
    · ileft; iexact H0
  have hslots : (landing c : sProp 𝕄) ⊢ |={Set.univ}=> iprop(∃ κ : ℕ, slotsInv (F := F) κ c) := hrows.trans inv_alloc
  have hz : (ownZeros c : sProp 𝕄) ⊢ bigSep Finset.univ fun k : Role => semVal (cell c k) 0 := .of_eq (by rw [bigSep_roles, ownSems_eq])
  unfold G
  iintro ⟨Hs, Hl, Hst, Hrest⟩
  imod hmk $$ [Hs Hst] with HI
  · isplitr [Hst]
    · iapply hz; iexact Hs
    · iexact Hst
  imod hslots $$ Hl with HJ
  imodintro
  isplitl [HI]; · iexact HI
  isplitl [HJ]; · iexact HJ
  iexact Hrest

/-- All the invariants, and that every counter's first round is open. -/
def known (K : Dev nD × Role → ℕ) (κ : Dev nD → ℕ) : sProp 𝕄 :=
  iprop((bigSep Finset.univ fun e : Dev nD × Role => inv m ρ K e.1 e.2) ∗ (bigSep Finset.univ fun c : Dev nD => slotsInv (F := F) (κ c) c)
    ∗ bigSep Finset.univ fun e : Dev nD × Role => reached ER (cell e.1 e.2) 0)

instance known_persistent (K : Dev nD × Role → ℕ) (κ : Dev nD → ℕ) : BI.Persistent (known m ρ K κ) := by unfold known; infer_instance

section Known
variable (K : Dev nD × Role → ℕ) (κ : Dev nD → ℕ)

theorem known_inv (c : Dev nD) (k : Role) : known m ρ K κ ⊢ inv m ρ K c k := by
  have h : (bigSep Finset.univ fun e : Dev nD × Role => inv m ρ K e.1 e.2) ⊢ inv m ρ K c k := bigSep_elim (Finset.mem_univ (c, k))
  unfold known
  iintro ⟨H, -⟩
  iapply h
  iexact H
theorem known_slots (c : Dev nD) : known m ρ K κ ⊢ slotsInv (F := F) (κ c) c := by
  have h : (bigSep Finset.univ fun c : Dev nD => slotsInv (F := F) (κ c) c) ⊢ slotsInv (F := F) (κ c) c := bigSep_elim (Finset.mem_univ c)
  unfold known
  iintro ⟨-, H, -⟩
  iapply h
  iexact H
theorem known_reached (c : Dev nD) (k : Role) : known m ρ K κ ⊢ reached ER (cell c k) 0 := by
  have h : (bigSep Finset.univ fun e : Dev nD × Role => (reached ER (cell e.1 e.2) 0 : sProp 𝕄)) ⊢ reached ER (cell c k) 0 := bigSep_elim (Finset.mem_univ (c, k))
  unfold known
  iintro ⟨-, -, H⟩
  iapply h
  iexact H

theorem known_side (c : Dev nD) (b : Bool) : known m ρ K κ ⊢ sideInv m ρ K κ c b := by
  unfold sideInv
  iintro #H
  isplitr; · iapply (known_inv m ρ K κ c _); iexact H
  isplitr; · iapply (known_inv m ρ K κ c _); iexact H
  isplitr; · iapply (known_inv m ρ K κ (nb b c) _); iexact H
  isplitr; · iapply (known_slots m ρ K κ (nb b c)); iexact H
  isplitr; · iapply (known_reached m ρ K κ c _); iexact H
  iapply (known_reached m ρ K κ (nb b c) _); iexact H

/-- What stays with device `c` alone: where it stands at its four counters, and its tokens. -/
def alone (c : Dev nD) : sProp 𝕄 :=
  iprop((bigSep Finset.univ fun k : Role => atPos ER (cell c k) 0 ∅ 0) ∗ bigSep Finset.univ fun b : Bool => useToks c b)

/-- What device `c` starts with of all this. -/
def books (c : Dev nD) : sProp 𝕄 := iprop(∃ K κ, ghost m ρ K κ c ∗ mayTakes (F := F) c)

theorem books_of (c : Dev nD) : iprop(known m ρ K κ ∗ alone c) ⊢ books m ρ c := by
  unfold books alone ghost mayTakes sideHold
  rw [bigSep_roles, bigSep_bool]
  unfold useToks
  iintro ⟨#HK, ⟨HaS1, HaS0, HaV1, HaV0⟩, ⟨H1, H2, H3, H4⟩, ⟨H5, H6, H7, H8⟩⟩
  iexists K, κ
  isplitr [H4 H8]
  · isplitr
    · isplitr; · iapply (known_slots m ρ K κ c); iexact HK
      isplitr
      · iapply (known_side m ρ K κ c true); iexact HK
      · iapply (known_side m ρ K κ c false); iexact HK
    isplitl [HaS1 HaV1 H1 H2 H3]
    · isplitl [HaS1 HaV1]
      · isplitl [HaS1] <;> iassumption
      isplitl [H1]; · iexact H1
      isplitl [H2] <;> iassumption
    · isplitl [HaS0 HaV0]
      · isplitl [HaS0] <;> iassumption
      isplitl [H5]; · iexact H5
      isplitl [H6] <;> iassumption
  · isplitl [H4] <;> iassumption

end Known

omit [FloatOps F] in
/-- The tokens change hands across every link at once. -/
theorem hand_over : (bigSep Finset.univ fun c : Dev nD => bigSep Finset.univ fun b : Bool => ownToks c b : sProp 𝕄)
    ⊢ bigSep Finset.univ fun c : Dev nD => bigSep Finset.univ fun b : Bool => useToks c b := by
  rw [← bigSep_univ_prod (fun e : Dev nD × Bool => (ownToks e.1 e.2 : sProp 𝕄)), ← bigSep_univ_prod (fun e : Dev nD × Bool => (useToks e.1 e.2 : sProp 𝕄))]
  unfold ownToks useToks
  rw [bigSep_sep', bigSep_sep', bigSep_sep', bigSep_sep', bigSep_sep', bigSep_sep',
    bigSep_univ_equiv cross (fun e : Dev nD × Bool => (dutyTok ER (vC e.1 e.2) 0 e.2 : sProp 𝕄)),
    bigSep_univ_equiv cross (fun e : Dev nD × Bool => (mayWrite e.1 e.2 : sProp 𝕄))]
  exact .rfl

/-- A persistent fact goes to every part. -/
theorem to_each {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  refine (sep_mono_left (BI.bigSep_of_persistent S R)).trans ?_
  rw [← bigSep_sep']
  exact bigSep_mono h

/-- The invariants become known to all, the tokens are handed over. -/
theorem share_out :
    (bigSep Finset.univ fun c : Dev nD => iprop((bigSep Finset.univ fun k : Role => iprop(∃ κ : ℕ, cellInv ER (sched m ρ) κ (cell c k)))
          ∗ (∃ κ : ℕ, slotsInv (F := F) κ c)
          ∗ (bigSep Finset.univ fun k : Role => iprop(atPos ER (cell c k) 0 ∅ 0 ∗ reached ER (cell c k) 0)) ∗ bigSep Finset.univ fun b : Bool => ownToks c b) : sProp 𝕄)
      ⊢ bigSep Finset.univ (books m ρ) := by
  have hsplit (c : Dev nD) := bigSep_sep' (Finset.univ : Finset Role) (fun k => (atPos ER (cell c k) 0 ∅ 0 : sProp 𝕄)) (fun k => reached ER (cell c k) 0)
  simp only [hsplit]
  rw [bigSep_sep', bigSep_sep', bigSep_sep', bigSep_sep', ← bigSep_univ_prod (fun e : Dev nD × Role => iprop(∃ κ : ℕ, cellInv ER (sched (F := F) m ρ) κ (cell e.1 e.2))),
    ← bigSep_univ_prod (fun e : Dev nD × Role => (reached ER (cell e.1 e.2) 0 : sProp 𝕄))]
  iintro ⟨HI, HJ, ⟨Hat, #HR⟩, Htok⟩
  ihave HK := (BI.bigSep_exists_pi Finset.univ (fun (e : Dev nD × Role) (κ : ℕ) => (cellInv ER (sched (F := F) m ρ) κ (cell e.1 e.2) : sProp 𝕄))) $$ HI
  icases HK with ⟨%K, #HI⟩
  ihave HK := (BI.bigSep_exists_pi Finset.univ (fun (c : Dev nD) (κ : ℕ) => (slotsInv (F := F) κ c : sProp 𝕄))) $$ HJ
  icases HK with ⟨%κ, #HJ⟩
  ihave Htok := (hand_over (F := F)) $$ Htok
  iapply (to_each (R := known m ρ K κ) (Φ := alone) fun c _ => books_of m ρ K κ c)
  isplitr
  · unfold known
    isplitl
    · iexact HI
    isplitl
    · iexact HJ
    · iexact HR
  · unfold alone
    rw [bigSep_sep']
    isplitl [Hat] <;> iassumption

/-- Before the devices start: the invariants made and shared, the tokens handed over. -/
theorem prepare :
    (bigSep Finset.univ fun c => iprop(ownZeros c ∗ landing c ∗ G m ρ c) : sProp 𝕄) ⊢ |={Set.univ}=> bigSep Finset.univ (books m ρ) :=
  ((bigSep_mono fun c _ => make_inv m ρ c).trans (bigSep_fupd _ _)).trans (BI.fupd_mono (share_out m ρ))

/-! ## The credits at the start -/

omit [FloatOps F] in
theorem owedRow_at (d c : Dev nD) (b b' : Bool) :
    owedRow d b (vC c b') () = if b' = !b then (if nb b' c = d then (if Has b' c then N else 0) else 0) else 0 := by
  have key : (vC c b' = vC (nb b d) (!b)) ↔ b' = !b ∧ nb b' c = d := by
    refine ⟨fun h => ?_, fun ⟨h1, h2⟩ => ?_⟩
    · have e : c = nb b d := congrArg (fun g : GSem nD τ sig => g.1.1) h
      have hb : b' = !b := congrArg Prod.snd (semOf_inj (a₁ := (true, b')) (a₂ := (true, !b)) (congrArg Prod.snd h))
      refine ⟨hb, ?_⟩
      rw [hb, e, nb_back]
    · subst h1; rw [← h2]; have e := nb_back (!b) c; rw [Bool.not_not] at e; rw [e]
  unfold owedRow
  by_cases hb : b' = !b
  · rw [if_pos hb]
    by_cases h : nb b' c = d
    · have e : Has b' c ↔ Has b d := by rw [hb] at h ⊢; rw [← h]; have := has_nb (!b) c; rw [Bool.not_not] at this; exact this.symm
      rw [if_pos h]
      by_cases hd : Has b d
      · rw [if_pos hd, if_pos (e.mpr hd), tallyAt_apply, if_pos ⟨key.mpr ⟨hb, h⟩, rfl⟩]
      · rw [if_neg hd, if_neg (fun h' => hd (e.mp h'))]; rfl
    · rw [if_neg h]
      split
      · rw [tallyAt_apply, if_neg fun h' => h (key.mp h'.1).2]
      · rfl
  · rw [if_neg hb]
    split
    · rw [tallyAt_apply, if_neg fun h' => hb (key.mp h'.1).1]
    · rfl

omit [FloatOps F] in
/-- All the devices together owe each receive counter of device `c` a row's credit, where there is a neighbour. -/
theorem credit_recv (c : Dev nD) (b : Bool) :
    tallyOn (vC c b) (launchCredit (Pipeline.owing O₀) 0 (vC c b)) = (if Has b c then tallyAt (vC c b) () N else tallyAt (vC c b) () 0 : CellTallies nD τ sig Unit) := by
  rw [show (if Has b c then tallyAt (vC c b) () N else tallyAt (vC c b) () 0 : CellTallies nD τ sig Unit) = tallyAt (vC c b) () (if Has b c then N else 0) from by split <;> rfl]
  unfold tallyAt
  refine congrArg _ (Finsupp.ext fun u => ?_)
  cases u
  rw [Pipeline.launchCredit_owing, Finsupp.single_eq_same]
  have h (d : Dev nD) : O₀ d (vC c b) () = if nb b c = d then (if Has b c then N else 0) else 0 := by
    rw [show O₀ d (vC c b) () = 0 + owedRow d false (vC c b) () + owedRow d true (vC c b) () from rfl, owedRow_at, owedRow_at, Bool.not_false, Bool.not_true]
    cases b
    · rw [if_neg (show ¬ (false = true) by decide), if_pos rfl]; omega
    · rw [if_pos rfl, if_neg (show ¬ (true = false) by decide)]; omega
  rw [Finset.sum_congr rfl fun d _ => h d, Finset.sum_ite_eq, if_pos (Finset.mem_univ _)]

omit [FloatOps F] in
theorem owedIn_of (c : Dev nD) (b : Bool) :
    (cred (tallyOn (vC c b) (launchCredit (Pipeline.owing O₀) 0 (vC c b))) : sProp 𝕄) ⊢ owedIn c b := by
  rw [credit_recv]
  unfold owedIn
  split
  · exact .rfl
  · iintro -; iempintro

omit [FloatOps F] in
/-- The credits of the launch are those the body needs. -/
theorem credits_of (c : Dev nD) : (Pipeline.launchCred O₀ c : sProp 𝕄) ⊢ credits c := by
  unfold Pipeline.launchCred credits
  rw [bigSep_univ_at _ (semOf (true, true))]
  have hf : semOf (true, false) ∈ Finset.univ.erase (semOf (true, true)) :=
    Finset.mem_erase.mpr ⟨fun h => absurd (semOf_inj h) (by simp), Finset.mem_univ _⟩
  exact BI.sep_mono (owedIn_of c true) ((bigSep_elim hf).trans (owedIn_of c false))

end Cert.BareProof

end
-- ==== Proof.Bare.Body.lean ====
/-
  One device's body, run step by step: from what it holds at the start to its output and its five counters at zero.
-/
module

public import proofs.«01_k».proof.Proof.Bare.State

@[expose] public section

noncomputable section

namespace Cert.BareProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UU ℕ

variable (m : (ℓ : Loc nD τ sig) → Buf (Elt F) ℓ) (ρ : Dev nD → PrngReg)

theorem wpc_bind (c : Dev nD) {α β : Type} (p : Code F α) (k : α → Code F β) (Q : β → sProp 𝕄) :
    wpc c p (fun a => wpc c (k a) Q) ⊢ wpc c (p >>= k) Q := by
  unfold wpc
  rw [wp_bind]

section Run
variable (K : Dev nD × Role → ℕ) (κ : Dev nD → ℕ) (c : Dev nD)

/-- What device `c` holds of one side after the first part: the wait for its own copy is still to come. -/
def sideLeft (b : Bool) : sProp 𝕄 := iprop(sentOut m ρ c b ∗ atPos ER (sC c b) 0 ∅ 0)

/-- The first part: the sends, the middle rows, the first row, and the last where there is a device after. -/
theorem run_first (W : Waits sig Unit) (f : (cc0_stg1_0 : Ref sig .tc).ty.Contents (Elt F)) (Q : PUnit → sProp 𝕄) :
    iprop((ghost m ρ K κ c ∗ mayTakes (F := F) c ∗ credits c ∗ edgePts m ρ c true ∗ edgePts m ρ c false
          ∗ owes (c : Thread nD τ) (O₀ c) W ∗ xHalf m ρ c ∗ oPts c f)
        ∗ (((∃ W', owes (c : Thread nD τ) 0 W') ∗ endPos (F := F) c true true ∗ semVal (vC c false) 0 ∗ (slotIn (F := F) c true ∗ slotIn (F := F) c false)
            ∗ sideLeft m ρ c true ∗ sideLeft m ρ c false ∗ xHalf m ρ c
            ∗ ∃ u v, oPts c (if Has true c then botOut m ρ c v (topOut m ρ c u (midOut m ρ c f)) else topOut m ρ c u (midOut m ρ c f))) -∗ Q ⟨⟩))
      ⊢ wpc c (first c) Q := by
  unfold ghost sideInv sideHold credits sideLeft first mayTakes
  iintro ⟨⟨⟨⟨#HJ, ⟨#HS1, #HV1, #HVn1, #HJ1, #HrS1, #HrV1⟩, ⟨#HS0, #HV0, #HVn0, #HJ0, #HrS0, #HrV0⟩⟩,
    ⟨⟨HaS1, HaV1⟩, HtS1, HtV1, Hw1⟩, ⟨⟨HaS0, HaV0⟩, HtS0, HtV0, Hw0⟩⟩, ⟨Hm1, Hm0⟩, ⟨HcV1, HcV0⟩, He1, He0, HO, Hx, Ho⟩, HQ⟩
  iapply (wpc_bind c _ _ Q)
  iapply (step_up m ρ K κ c _ (cond1_iff c) _ (dev1_nb c) (0 + owedRow c false) W _)
  isplitl [HtS1 HtV1 He1 Hw1 HO]
  · isplitr [HO]
    · unfold sendRes
      isplitr; · iexact HS1
      isplitr; · iexact HVn1
      isplitr; · iexact HJ1
      isplitr; · iexact HrS1
      isplitr; · iexact HrV1
      isplitl [HtS1]; · iexact HtS1
      isplitl [HtV1]; · iexact HtV1
      isplitl [He1] <;> iassumption
    · iexact HO
  iintro ⟨HO, Hs1⟩
  iapply (wpc_bind c _ _ Q)
  iapply (step_down m ρ K κ c _ (cond2_iff c) _ (dev2_nb c) 0 W _)
  isplitl [HtS0 HtV0 He0 Hw0 HO]
  · isplitr [HO]
    · unfold sendRes
      isplitr; · iexact HS0
      isplitr; · iexact HVn0
      isplitr; · iexact HJ0
      isplitr; · iexact HrS0
      isplitr; · iexact HrV0
      isplitl [HtS0]; · iexact HtS0
      isplitl [HtV0]; · iexact HtV0
      isplitl [He0] <;> iassumption
    · iexact HO
  iintro ⟨HO, Hs0⟩
  iapply (wpc_bind c _ _ Q)
  iapply (step_mid m ρ c f _)
  isplitl [Hx Ho]
  · isplitl [Hx] <;> iassumption
  iintro ⟨Hx, Ho⟩
  iapply (wpc_bind c _ _ Q)
  iapply (step_topHalo m ρ K (κ c) c _ (prev_iff c) W (midOut m ρ c f) _)
  isplitl [HcV0 Hm0 HO HaV0 Hx Ho]
  · isplitr; · iexact HV0
    isplitl [HcV0]; · iexact HcV0
    isplitr; · iexact HJ
    isplitl [Hm0]; · iexact Hm0
    isplitl [HO]; · iexact HO
    isplitl [HaV0]; · iexact HaV0
    isplitl [Hx] <;> iassumption
  iintro ⟨⟨%W1, HO⟩, HaV0, Hk0, Hx, ⟨%u, Ho⟩⟩
  imod (close_dma m ρ K c true false) $$ [HaV0] with Hz0
  · isplitr; · iexact HV0
    iexact HaV0
  iapply (wpc_bind c _ _ Q)
  iapply (step_topKeep m ρ c _ (noprev_iff c) u (midOut m ρ c f) _)
  isplitl [Hx Ho]
  · isplitl [Hx] <;> iassumption
  iintro ⟨Hx, Ho⟩
  iapply (step_botHalo m ρ K (κ c) c _ (next_iff c) W1 (topOut m ρ c u (midOut m ρ c f)) Q)
  isplitl [HcV1 Hm1 HO HaV1 Hx Ho]
  · isplitr; · iexact HV1
    isplitl [HcV1]; · iexact HcV1
    isplitr; · iexact HJ
    isplitl [Hm1]; · iexact Hm1
    isplitl [HO]; · iexact HO
    isplitl [HaV1]; · iexact HaV1
    isplitl [Hx] <;> iassumption
  iintro ⟨HO, HaV1, Hk1, Hx, ⟨%v, Ho⟩⟩
  iapply HQ
  isplitl [HO]; · iexact HO
  isplitl [HaV1]; · iexact HaV1
  isplitl [Hz0]; · iexact Hz0
  isplitl [Hk1 Hk0]; · isplitl [Hk1] <;> iassumption
  isplitl [Hs1 HaS1]; · isplitl [Hs1] <;> iassumption
  isplitl [Hs0 HaS0]; · isplitl [Hs0] <;> iassumption
  isplitl [Hx]; · iexact Hx
  iexists u, v; iexact Ho

/-- The rest: the last row of all, and the device's own copies. -/
theorem run_second (W : Waits sig Unit) (v : S1x1024.Idx → Elt F .f32) (f : (cc0_stg1_0 : Ref sig .tc).ty.Contents (Elt F)) (Q : PUnit → sProp 𝕄) :
    iprop((sideInv m ρ K κ c true ∗ sideInv m ρ K κ c false ∗ sideLeft m ρ c true ∗ sideLeft m ρ c false
          ∗ endPos (F := F) c true true ∗ owes (c : Thread nD τ) 0 W ∗ xHalf m ρ c ∗ oPts c (if Has true c then botOut m ρ c v f else f))
        ∗ (((∃ W', owes (c : Thread nD τ) 0 W') ∗ (semVal (sC c true) 0 ∗ semVal (sC c false) 0) ∗ semVal (vC c true) 0
            ∗ (edgePts m ρ c true ∗ edgePts m ρ c false) ∗ xHalf m ρ c ∗ oPts c (botOut m ρ c v f)) -∗ Q ⟨⟩))
      ⊢ wpc c (second (wPrev c) (wNext c) 1#1) Q := by
  unfold sideInv sideLeft second
  iintro ⟨⟨⟨#HS1, #HV1, -, -, -, -⟩, ⟨#HS0, -, -, -, -, -⟩, ⟨Hs1, HaS1⟩, ⟨Hs0, HaS0⟩, HaV1, HO, Hx, Ho⟩, HQ⟩
  imod (close_dma m ρ K c true true) $$ [HaV1] with Hz1
  · isplitr; · iexact HV1
    iexact HaV1
  iapply (wpc_bind c _ _ Q)
  iapply (step_botKeep m ρ c _ (nonext_iff c) v f _)
  isplitl [Hx Ho]
  · isplitl [Hx] <;> iassumption
  iintro ⟨Hx, Ho⟩
  iapply (wpc_bind c _ _ Q)
  iapply (step_sent m ρ K c true _ (next_iff c) W (edge_credit true) _ rfl _)
  isplitl [Hs1 HO HaS1]
  · isplitr; · iexact HS1
    isplitl [Hs1]; · iexact Hs1
    isplitl [HO] <;> iassumption
  iintro ⟨⟨%W3, HO⟩, Hy1, He1⟩
  iapply (step_sent m ρ K c false _ (prev_iff c) W3 (edge_credit false) _ rfl Q)
  isplitl [Hs0 HO HaS0]
  · isplitr; · iexact HS0
    isplitl [Hs0]; · iexact Hs0
    isplitl [HO] <;> iassumption
  iintro ⟨HO, Hy0, He0⟩
  iapply HQ
  isplitl [HO]; · iexact HO
  isplitl [Hy1 Hy0]
  · isplitl [Hy1] <;> iassumption
  isplitl [Hz1]; · iexact Hz1
  isplitl [He1 He0]
  · isplitl [He1] <;> iassumption
  isplitl [Hx] <;> iassumption

/-- The body: from the input block and any output buffer to the input block and the stencil in the rows that take
    nothing from elsewhere. -/
theorem run_body (W : Waits sig Unit) (f : (cc0_stg1_0 : Ref sig .tc).ty.Contents (Elt F)) (Q : PUnit → sProp 𝕄) :
    iprop((ghost m ρ K κ c ∗ mayTakes (F := F) c ∗ credits c ∗ owes (c : Thread nD τ) (O₀ c) W
          ∗ (((c : Thread nD τ).loc cc0_stg0_0) ↦{fullShare} xstg m ρ c) ∗ oPts c f)
        ∗ ((Φ₁ (F := F) c ∗ (∃ W', owes (c : Thread nD τ) 0 W') ∗ (((c : Thread nD τ).loc cc0_stg0_0) ↦{fullShare} xstg m ρ c)
            ∗ ∃ o, ⌜∀ i, Inside c i → o i = outAt m ρ c i⌝ ∗ oPts c o) -∗ Q ⟨⟩))
      ⊢ wpc c (cc0_body (F := F) xM (Memref.isWhole_whole _) oM (Memref.isWhole_whole _) kM (Memref.isWhole_whole _) cc0_scratch1 cc0_scratch2) Q := by
  rw [cc0_body_eq_skeleton, body_eq]
  unfold wpc
  rw [wp_deviceId]
  iintro ⟨⟨Hg, Hm, Hc, HO, Hx, Ho⟩, HQ⟩
  unfold ghost
  icases Hg with ⟨⟨#HJ, #HI1, #HI0⟩, Hg⟩
  ihave Hx := (x_split m ρ c).1 $$ Hx
  icases Hx with ⟨⟨He1, He0, Hr⟩, Hx⟩
  iapply (wpc_bind c (first c) _ Q)
  iapply (run_first m ρ K κ c W f _)
  isplitr [HQ Hr]
  · isplitl [Hg]
    · unfold ghost
      isplitr
      · isplitr; · iexact HJ
        isplitr; · iexact HI1
        iexact HI0
      · iexact Hg
    isplitl [Hm]; · iexact Hm
    isplitl [Hc]; · iexact Hc
    isplitl [He1]; · iexact He1
    isplitl [He0]; · iexact He0
    isplitl [HO]; · iexact HO
    isplitl [Hx] <;> iassumption
  iintro ⟨⟨%W1, HO⟩, HaV1, Hz0, Hk, H1, H0, Hx, ⟨%u, %v, Ho⟩⟩
  iapply (run_second m ρ K κ c W1 v _ Q)
  isplitr [HQ Hr Hz0 Hk]
  · isplitr; · iexact HI1
    isplitr; · iexact HI0
    isplitl [H1]; · iexact H1
    isplitl [H0]; · iexact H0
    isplitl [HaV1]; · iexact HaV1
    isplitl [HO]; · iexact HO
    isplitl [Hx] <;> iassumption
  iintro ⟨HO, HzS, Hz1, ⟨He1, He0⟩, Hx, Ho⟩
  iapply HQ
  unfold Φ₁ zeros
  isplitl [Hk Hz0 Hz1 HzS]
  · isplitl [Hk]; · unfold slotIn; iapply (slots_join (F := F) c); iexact Hk
    isplitl [HzS]; · iexact HzS
    isplitl [Hz1] <;> iassumption
  isplitl [HO]; · iexact HO
  isplitl [Hx He1 He0 Hr]
  · iapply (x_split m ρ c).2
    isplitr [Hx]
    · isplitl [He1]; · iexact He1
      isplitl [He0] <;> iassumption
    · iexact Hx
  iexists _
  isplitr; · ipureintro; exact out_eq m ρ c u v f
  iexact Ho

end Run

end Cert.BareProof

end
-- ==== Proof.Bare.Launch.lean ====
/-
  The launch: the body on every device as the pipeline calls it, the kernel entered with the landing rows shared, and the
  run of the whole program.
-/
module

public import proofs.«01_k».proof.Proof.Bare.Tokens
public import proofs.«01_k».proof.Proof.Bare.Body

@[expose] public section

noncomputable section

namespace Cert.BareProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat BodyObligationRel)

variable {F : FTy → Type} [FloatOps F]

local notation "𝕄" => MT nD τ sig Unit (Elt F) ℕ UU ℕ

variable (m : (ℓ : Loc nD τ sig) → Buf (Elt F) ℓ) (ρ : Dev nD → PrngReg)

/-! ## The body as the pipeline calls it -/

/-- A staging buffer holding `X`. -/
abbrev staged (c : Dev nD) (b : Ref sig .tc) (X : b.ty.Contents (Elt F)) : sProp 𝕄 :=
  iprop(∃ f : Buf (Elt F) ((c : Thread nD τ).loc b), ⌜f = X⌝ ∗ ((c : Thread nD τ).loc b) ↦{fullShare} f)

omit [FloatOps F] in
theorem owns_staged (c : Dev nD) (b : Ref sig .tc) (X : b.ty.Contents (Elt F)) :
    (owns (Ix := Unit) (Name := ℕ) (U := UU) (Lvl := ℕ) (c : Thread nD τ) (Memref.whole b) fullShare X : sProp 𝕄) = staged c b X := by
  unfold owns; simp only [Memref.view_whole, View.read_whole, View.set_whole]

def Pre (c : Dev nD) : sProp 𝕄 :=
  iprop(start m ρ c ∗ (dats m ρ 0 c).owesAt () t0_0.castSucc
    ∗ (∃ d, staged c cc0_stg0_0 ((dats m ρ 0 c).before (0 : Fin 2) t0_0 d))
    ∗ ∃ Y, ⌜(rdats m ρ 0 c).Finds (1 : Fin 2) t0_0 Y⌝ ∗ staged c cc0_stg1_0 Y)
def Post (c : Dev nD) : sProp 𝕄 :=
  iprop(Φ₁ (F := F) c ∗ (dats m ρ 0 c).owesAt () t0_0.succ ∗ staged c cc0_stg0_0 (xstg m ρ c)
    ∗ ∃ X, ⌜leavesOut m ρ c (1 : Fin 2) t0_0 X⌝ ∗ staged c cc0_stg1_0 X)

/-- What the input window's staging buffer holds before the body: the device's block. -/
theorem before_x (c : Dev nD) (d) : (dats m ρ 0 c).before (0 : Fin 2) t0_0 d = xstg m ρ c := by
  unfold Dat.before
  rw [if_pos (fetch0_0 t0_0)]
  rfl

theorem pre_post (c : Dev nD) :
    Pre m ρ c ⊢ wpc c (cc0_body (F := F) xM (Memref.isWhole_whole _) oM (Memref.isWhole_whole _) kM (Memref.isWhole_whole _) cc0_scratch1 cc0_scratch2)
      (fun _ => Post m ρ c) := by
  unfold Pre start
  iintro ⟨⟨⟨%K, %κ, Hg, Ht⟩, Hc⟩, Ho, ⟨%d0, %g0, %h0, Hx⟩, ⟨%Y, -, %g1, -, Hout⟩⟩
  rw [before_x] at h0
  subst h0
  unfold Dat.owesAt Pipeline.owesWithin
  icases Ho with ⟨%W, -, HO⟩
  iapply (run_body m ρ K κ c W g1 _)
  isplitl [Hg Ht Hc HO Hx Hout]
  · isplitl [Hg]; · iexact Hg
    isplitl [Ht]; · iexact Ht
    isplitl [Hc]; · iexact Hc
    isplitl [HO]; · iexact HO
    isplitl [Hx]; · iexact Hx
    unfold oPts; iexact Hout
  iintro ⟨HΦ, ⟨%W', HO⟩, Hx, %o, %ho, Hout⟩
  unfold Post oPts Dat.owesAt Pipeline.owesWithin
  isplitl [HΦ]; · iexact HΦ
  isplitl [HO]
  · iexists W'
    isplitr; · ipureintro; exact fun _ _ => .inl trivial
    iexact HO
  isplitl [Hx]
  · iexists _; isplitr; · (ipureintro; rfl)
    iexact Hx
  · iexists o
    isplitr; · ipureintro; exact ho
    iexists _; isplitr; · (ipureintro; rfl)
    iexact Hout

set_option maxRecDepth 4000 in
/-- The body does on device `c` what the pipeline asks of it. -/
theorem obligation (c : Dev nD) : BodyObligationRel (dats (F := F) m ρ 0 c) (defs₀ (F := F)) 𝒱₀ () Set.univ outputs (leavesOut m ρ c) := fun t => by
  rw [fin_N0 t, bigSep_W0, bigSep_W0]
  simp only [owns_staged]
  exact pre_post m ρ c

theorem obligation' (c : Dev nD) : (rdats (F := F) m ρ 0 c).BodyObligation (defs₀ (F := F)) 𝒱₀ () Set.univ := (obligation m ρ c).toRRel

end Cert.BareProof

end
-- ==== Proof.Bare.Run.lean ====
/-
  The run of the whole program. The launch gives each device its bookkeeping with the landing rows already shared; the device
  keeps its staging buffers, enters the kernel with both, runs the pipeline and leaves with everything whole again.
-/
module

public import proofs.«01_k».proof.Proof.Bare.Launch

@[expose] public section

noncomputable section

namespace Cert.BareProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's pieces -/

abbrev pipes : Fin 1 → Pipeline.PCfg sig Λ₀ (Elt F) := fun p => (cfgs p).toPCfg
abbrev adm : Dev nD → (p : Fin 1) → (pipes (F := F) p).Adm := fun _ p => (cfgs p).toPCfg_adm
abbrev pins : Dev nD → Fin 1 → Pipeline.Cfg sig Λ₀ := Pipeline.pinD (pipes (F := F)) adm

/-- The staging counters of device `c`, at zero; -/
abbrev stageZeros (c : Dev nD) : sProp 𝕄 := Pipeline.PerCore.cellsSems0 (pins (F := F)) 0 c
/-- its scoped counters the kernel never names, at zero; -/
abbrev idleZeros (c : Dev nD) : sProp 𝕄 := Pipeline.PerCore.idleSems0 (pins (F := F)) cellOf_inj 0 (fun _ => ownSemFacts) c
/-- and the pipeline's own bookkeeping. -/
abbrev stageGhost (c : Dev nD) : sProp 𝕄 := Pipeline.PerCore.cellsGhost (pins (F := F)) EP 0 c
abbrev stageToks (c : Dev nD) : sProp 𝕄 := Pipeline.PerCore.toksInit (pins (F := F)) EP 0 c

theorem semZeros_eq (c : Dev nD) : (scopedSems0 (c : Thread nD τ) : sProp 𝕄) = iprop((stageZeros c ∗ ownZeros c) ∗ idleZeros c) :=
  Pipeline.PerCore.scopedSems0_split (pins (F := F)) cellOf_inj 0 (fun _ => winFacts0.to₀) (fun _ => ownSemFacts) c

theorem share_full (c : Dev nD) (w : Fin cfg0.W) : (rdats m ρ 0 c).share w = fullShare := by unfold RDat.share; split <;> rfl

theorem stage_other : ∀ (w : Fin cfg0.W) (s : Fin (cfg0.win w).nbuf),
    ¬ (SemLoc.dma ((cfg0.win w).sem s) = semOf (true, true) ∨ SemLoc.dma ((cfg0.win w).sem s) = semOf (true, false)) := by decide

theorem stage_waits (c : Dev nD) : (levAts L lv : sProp 𝕄) ⊢ Pipeline.PerCore.RDat.cellsWaits (pins (F := F)) (rdats m ρ) () 0 c :=
  Pipeline.PerCore.RDat.cellsWaits_intro (pins (F := F)) (rdats m ρ) () 0 c fun w s t =>
    mayWait_stage c _ (stage_other w s) _ (by
      rcases t with ⟨_ | _, ht⟩
      · exact .inl rfl
      · exact .inr rfl)

/-! ## The kernel's region -/

/-- What the pipeline needs on device `c` besides the body's start and the staging buffers. -/
abbrev before (κ : GSem nD τ sig → ℕ) (c : Dev nD) : sProp 𝕄 := Pipeline.PerCore.RDat.EntryPre (pins (F := F)) (rdats m ρ) () EP κ 0 c
/-- And what it leaves. -/
abbrev after (c : Dev nD) : sProp 𝕄 := Pipeline.PerCore.RDat.EntryPost (pins (F := F)) (rdats m ρ) () 0 c

/-- At the end of the kernel everything scoped is whole and at zero. -/
theorem leave (c : Dev nD) :
    iprop((rdats m ρ 0 c).Φ (Fin.last cfg0.N) ∗ stageZeros c ∗ staging c ∗ idleZeros c)
      ⊢ iprop(scopedSems0 (c : Thread nD τ) ∗ scopedBufs (c : Thread nD τ)) := by
  rw [show (rdats m ρ 0 c).Φ (Fin.last cfg0.N) = Φ₁ (F := F) c from rfl, semZeros_eq, scoped_eq]
  unfold Φ₁
  iintro ⟨⟨Hl, Hz⟩, Hs, Hst, Hi⟩
  ihave Hz := (zeros_iff (F := F) c).1 $$ Hz
  isplitl [Hs Hz Hi]
  · isplitl [Hs Hz]
    · isplitl [Hs] <;> iassumption
    · iexact Hi
  · isplitl [Hst] <;> iassumption

/-- The kernel's variant: one more than the pipeline's rounds. -/
abbrev rank : (Variants.lift 𝒱₀).V := (Sum.inr (cfg0.tripCount + 1) : (Variants.lift 𝒱₀).V)

theorem region (κ : GSem nD τ sig → ℕ) (c : Dev nD) (Q : PUnit → sProp 𝕄) :
    iprop((before m ρ κ c ∗ bring m ρ c ∗ idleZeros c) ∗ ((after m ρ c ∗ scopedSems0 (c : Thread nD τ) ∗ scopedBufs (c : Thread nD τ)) -∗ Q ⟨⟩))
      ⊢ wp frame (wpE defs (Variants.lift 𝒱₀) (c : Thread nD τ) none) Set.univ (main (F := F) c) Q := by
  have hent := wp_enter (F := F) (defs := defs) (Variants.lift 𝒱₀) (c : Thread nD τ) none .empty (bring_scoped m ρ c)
    (ℓ := Pipeline.entry 0) (a := ()) (k := fun _ => .ret ⟨⟩) (Ψ := Q) rank (fun u h => nomatch h)
  rw [show defs (c : Thread nD τ).2 (Pipeline.entry 0) () = Pipeline.prun (pipes (F := F)) 0 from Pipeline.defs_tc_entry (pipes (F := F)) defs₀ c 0 ()] at hent
  iintro ⟨⟨Hb, Hr, Hi⟩, HQ⟩
  iapply hent
  isplitl [Hr]; · iexact Hr
  iintro Hr
  unfold bring
  icases Hr with ⟨Hst, Hs⟩
  iapply (Pipeline.PerCore.RDat.wp_prun (pipes (F := F)) adm (rdats m ρ) () EP κ cellOf_inj 0 defs₀ 𝒱₀ (fun _ => fullShare) c Set.univ (fun _ _ => Set.mem_univ _)
    (obligation' m ρ c) (some rank)
    (Q := fun r => kernelExitSpec (c : Thread nD τ) fun _ => wp frame (wpE defs (Variants.lift 𝒱₀) (c : Thread nD τ) none) Set.univ (.ret r) Q)
    (fun u hu => by cases hu; exact Sum.Lex.inr (Nat.lt_succ_self _))) $$ [Hb Hst Hs]
  · isplitr
    · unfold Pipeline.prefHeld
      iapply (Entails.of_eq BI.bigSep_empty.symm)
      iempintro
    iintro -
    unfold before Pipeline.PerCore.RDat.EntryPre Pipeline.PerCore.RDat.RunPre RDat.Pre
    icases Hb with ⟨Ha, Ho, Hw, Hc, Ht⟩
    isplitl [Ha Ho Hst Hs]
    · isplitl [Ha]; · iexact Ha
      isplitl [Hst]; · iexact Hst
      isplitl [Ho]; · iexact Ho
      iapply (Entails.of_eq (show start m ρ c = (rdats m ρ 0 c).Φ 0 from rfl))
      iexact Hs
    isplitl [Hw]; · iexact Hw
    isplitl [Hc] <;> iassumption
  iintro ⟨Hpost, Hend⟩
  imod (Pipeline.PerCore.RDat.cellsEnd_close (pins (F := F)) (rdats m ρ) EP κ cellOf_inj 0 c Set.univ (fun _ _ => Set.mem_univ _) block_pos0) $$ Hend with Hz
  rw [kernelExitSpec_apply]
  imodintro
  unfold RDat.Post
  icases Hpost with ⟨Ha, Hst, Ho, HΦ⟩
  ihave H := (leave m ρ c) $$ [HΦ Hz Hst Hi]
  · isplitl [HΦ]; · iexact HΦ
    isplitl [Hz]; · iexact Hz
    isplitl [Hst] <;> iassumption
  icases H with ⟨Hz, Hsc⟩
  isplitl [Hz]; · iexact Hz
  iintro Hz
  isplitl [Hsc]; · iexact Hsc
  iintro Hsc
  rw [wp_ret]
  imodintro
  iapply HQ
  unfold after Pipeline.PerCore.RDat.EntryPost
  isplitl [Ha Ho]
  · isplitl [Ha] <;> iassumption
  isplitl [Hz] <;> iassumption

/-! ## One device's run -/

/-- What a device keeps to itself from the start; -/
def kept (c : Dev nD) : sProp 𝕄 :=
  iprop((staging c ∗ stageZeros c ∗ idleZeros c) ∗ unscopedBufs c (fun b => m ((c : Thread nD τ).loc b)) ∗ owes (c : Thread nD τ) (O₀ c) ∅ ∗ Pipeline.launchCred O₀ c)
/-- what it runs from; -/
def begins (c : Dev nD) : sProp 𝕄 := iprop(kept m c ∗ levAts L lv ∗ (stageGhost c ∗ stageToks c) ∗ books m ρ c)
/-- and what it ends with. -/
def ends (c : Dev nD) : sProp 𝕄 := iprop((rdats m ρ 0 c).arraysAt cfg0.N ∗ scopedSems0 (c : Thread nD τ))

/-- A device's two arrays among its unscoped buffers. -/
theorem arrays_of (c : Dev nD) :
    (unscopedBufs c (fun b => m ((c : Thread nD τ).loc b)) : sProp 𝕄) ⊢ (rdats m ρ 0 c).arrays (rdats m ρ 0 c).A := by
  rw [Pipeline.PerCore.unscopedBufs_split (fun _ => cfgs) (0 : Fin 1) c winFacts0.to₀.arr_unscoped winFacts0.arr_inj,
    Pipeline.PerCore.RDat.arrays_eq (pipes (F := F)) adm (rdats m ρ) 0 c arr_whole0 (share_full m ρ c)]
  iintro ⟨H, -⟩
  iexact H

theorem run_core (c : Dev nD) :
    begins m ρ c ⊢ wp frame (wpE defs (Variants.lift 𝒱₀) (c : Thread nD τ) none) Set.univ (main (F := F) c)
      (fun _ => post (liftTc (ends m ρ) BI.emp) (c : Thread nD τ)) := by
  unfold begins kept
  iintro ⟨⟨⟨Hst, Hz, Hi⟩, Hub, HO, Hc⟩, Hl, ⟨Hg, Ht⟩, Hbk⟩
  ihave Ha := (arrays_of m ρ c) $$ Hub
  ihave Hw := (stage_waits m ρ c) $$ Hl
  ihave Hc := (credits_of (F := F) c) $$ Hc
  iapply (fupd_wp frame (wpE defs (Variants.lift 𝒱₀) (c : Thread nD τ) none) Set.univ _ _)
  imod (Pipeline.PerCore.RDat.cellsInit_alloc (pins (F := F)) (rdats m ρ) EP cellOf_inj 0 c) $$ [Hz Hg] with ⟨%κ, -, Hinit⟩
  · isplitl [Hz] <;> iassumption
  imodintro
  iapply (region m ρ κ c _)
  isplitl
  · isplitl [Ha HO Hw Hinit Ht]
    · unfold before Pipeline.PerCore.RDat.EntryPre RDat.owesAt Pipeline.owesWithin
      isplitl [Ha]; · iexact Ha
      isplitl [HO]
      · iexists ∅
        isplitr; · ipureintro; rw [Finset.coe_empty]; exact Set.empty_subset _
        iexact HO
      isplitl [Hw]; · iexact Hw
      isplitl [Hinit] <;> iassumption
    isplitl [Hst Hbk Hc]
    · unfold bring start
      isplitl [Hst]; · iexact Hst
      unfold books
      isplitl [Hbk] <;> iassumption
    · iexact Hi
  iintro ⟨Hpost, Hz, -⟩
  unfold after Pipeline.PerCore.RDat.EntryPost RDat.owesAt Pipeline.owesWithin post ends
  icases Hpost with ⟨Ha, %W, -, HO⟩
  simp only [liftTc_tc]
  isplitr [HO]
  · isplitl [Ha] <;> iassumption
  · iexists W; iexact HO

/-! ## The launch -/

omit [FloatOps F] in
/-- Off the tensor core no counter carries a level. -/
theorem levels_off (d : Dev nD) (p : Proc τ) (hp : p ≠ .tc) : (coreLevAts ((d, p) : Thread nD τ) L lv : sProp 𝕄) = BI.emp := by
  unfold coreLevAts
  exact (bigSep_congr fun sm _ => by rw [L_of_ne ((d, p), sm) hp, BI.bigSep_empty]).trans (BI.bigSep_emp_const _)

omit [FloatOps F] in
/-- So the levels of the tensor cores are the levels of the whole machine. -/
theorem levels_all :
    (levAts L lv : sProp 𝕄) = bigSep Finset.univ fun d : Dev nD => (coreLevAts (d : Thread nD τ) L lv : sProp 𝕄) := by
  rw [show (levAts L lv : sProp 𝕄) = bigSep Finset.univ fun t : Thread nD τ => coreLevAts t L lv
    from bigSep_univ_prod fun g : GSem nD τ sig => bigSep (L g) fun ι => levAt g ι (lv g ι), bigSep_threads fun t : Thread nD τ => coreLevAts t L lv]
  rw [(bigSep_congr fun d _ => (bigSep_congr fun p hp => levels_off d p (Finset.ne_of_mem_erase hp)).trans (BI.bigSep_emp_const _)).trans
    (BI.bigSep_emp_const _)]
  exact BI.equiv_iff.mp BI.sep_emp

omit [FloatOps F] in
/-- The levels are assigned once for the machine. -/
theorem levels_of : (bigSep Finset.univ fun c : Dev nD => (levels0 c : sProp 𝕄)) ⊢ (|==> levAts L lv : sProp 𝕄) := by
  rw [levels_all]
  have hone (c : Dev nD) : (levels0 c : sProp 𝕄) ⊢ |==> coreLevAts (c : Thread nD τ) L lv := by
    have hr (P Q : sProp 𝕄) : iprop(P ∗ Q) ⊢ Q := by
      iintro ⟨-, H⟩
      iexact H
    exact (lev_assign_cells (c : Thread nD τ) L lv).trans (BI.bupd_mono (hr _ _))
  exact (bigSep_mono fun c _ => hone c).trans (BI.bigSep_bupd _ _)

/-- A device at the start: what it keeps, what is shared out before it runs, and its counters' levels. -/
theorem core_of (c : Dev nD) :
    (coreInit (Pipeline.owing O₀) 0 (s₀ m ρ) (c : Thread nD τ) : sProp 𝕄) ⊢ iprop(kept m c ∗ (ownZeros c ∗ landing c) ∗ levels0 c) := by
  refine (Pipeline.coreInit_boundary_owing O₀ m ρ c).trans ?_
  unfold boundary kept
  rw [semZeros_eq, scoped_eq]
  iintro ⟨⟨⟨Hst, Hl⟩, ⟨⟨Hz, Ho⟩, Hi⟩, -⟩, Hub, -, HO, Hlv, -, Hc⟩
  isplitl [Hst Hz Hi Hub HO Hc]
  · isplitl [Hst Hz Hi]
    · isplitl [Hst]; · iexact Hst
      isplitl [Hz] <;> iassumption
    isplitl [Hub]; · iexact Hub
    isplitl [HO] <;> iassumption
  isplitl [Ho Hl]
  · isplitl [Ho] <;> iassumption
  iexact Hlv

/-- The pipeline's bookkeeping, dealt to the devices. -/
theorem stage_deal : BI.own (EP (initOf (Pipeline.cells cfgs cellOf_inj) (Pipeline.launchToks cfgs cellOf_inj)))
    ⊢ (|==> iprop((bigSep Finset.univ fun c : Dev nD => stageGhost c) ∗ bigSep Finset.univ fun c : Dev nD => stageToks c) : sProp 𝕄) := by
  have hpick (Φ : Fin 1 → Dev nD → sProp 𝕄) : (bigSep Finset.univ fun c : Dev nD => bigSep Finset.univ fun p => Φ p c) ⊢ bigSep Finset.univ fun c : Dev nD => Φ 0 c :=
    bigSep_mono fun c _ => bigSep_elim (Finset.mem_univ 0)
  exact (Pipeline.PerCore.fund_ghost (pins (F := F)) EP cellOf_inj).trans (BI.bupd_mono (BI.sep_mono
    (hpick fun p c => Pipeline.PerCore.cellsGhost (pins (F := F)) EP p c) (hpick fun p c => Pipeline.PerCore.toksInit (pins (F := F)) EP p c)))

omit [FloatOps F] in
/-- A persistent fact goes to every device. -/
theorem to_all (R : sProp 𝕄) [BI.Persistent R] : R ⊢ bigSep Finset.univ fun _ : Dev nD => R :=
  BI.bigSep_of_persistent Finset.univ R

/-- All devices at the start have what they run from. -/
theorem launch_all :
    iprop((bigSep Finset.univ fun c : Dev nD => coreInit (Pipeline.owing O₀) 0 (s₀ m ρ) (c : Thread nD τ)) ∗ ownU u₀)
      ⊢ (|={Set.univ}=> bigSep Finset.univ (begins m ρ) : sProp 𝕄) := by
  have hcores : (bigSep Finset.univ fun c : Dev nD => coreInit (Pipeline.owing O₀) 0 (s₀ m ρ) (c : Thread nD τ))
      ⊢ (iprop((bigSep Finset.univ fun c : Dev nD => kept m c) ∗ (bigSep Finset.univ fun c : Dev nD => iprop(ownZeros c ∗ landing c)) ∗ bigSep Finset.univ fun c : Dev nD => levels0 c) : sProp 𝕄) := by
    refine (bigSep_mono fun c _ => core_of m ρ c).trans ?_
    rw [bigSep_sep', bigSep_sep']
    exact BI.Entails.refl _
  unfold u₀
  iintro ⟨Hc, Hu⟩
  ihave Hc := hcores $$ Hc
  icases Hc with ⟨Hk, Hs, Hl⟩
  imod (levels_of (F := F)) $$ Hl with #Hl
  ihave Hu := (ownU_pair _ _) $$ Hu
  icases Hu with ⟨HP, HX⟩
  imod (deal m ρ) $$ HX with HG
  imod (stage_deal (F := F)) $$ HP with ⟨Hg, Ht⟩
  imod (prepare m ρ) $$ [Hs HG] with HB
  · simp only [bigSep_sep']
    icases Hs with ⟨Ho, Hr⟩
    isplitl [Ho]; · iexact Ho
    isplitl [Hr] <;> iassumption
  imodintro
  unfold begins
  simp only [bigSep_sep']
  isplitl [Hk]; · iexact Hk
  isplitr
  · iapply (to_all (levAts L lv : sProp 𝕄))
    iexact Hl
  isplitl [Hg Ht]
  · isplitl [Hg] <;> iassumption
  iexact HB

/-- What is known of a device's memory and counters at the end. -/
def Ended (c : Dev nD) (s : MemSt nD τ sig (Elt F)) : Prop :=
  (∀ w : Fin cfg0.W, (rdats m ρ 0 c).ArrAt w cfg0.N (s.mem ((cfg0.win w).arr.view.loc (c : Thread nD τ))))
    ∧ ∀ sm : SemLoc sig, sm.isScoped .tc = true → s.sem ((c : Thread nD τ), sm) = 0

theorem end_read (c : Dev nD) (s' : Phys nD τ sig (Elt F)) :
    iprop(ends m ρ c ∗ SI s') ⊢ (|={Set.univ}=> iprop(⌜Ended m ρ c s'.mem⌝ ∗ SI s') : sProp 𝕄) := by
  unfold ends
  iintro ⟨⟨Ha, Hz⟩, HSI⟩
  ihave %hz := (tcScoped_read_pers c s') $$ [Hz HSI]
  · isplitl [Hz] <;> iassumption
  ihave Hr := (Pipeline.PerCore.RDat.arraysAt_read (pipes (F := F)) adm (rdats m ρ) 0 c arr_whole0 cfg0.N s') $$ [Ha HSI]
  · isplitl [Ha] <;> iassumption
  icases Hr with ⟨%ha, HSI⟩
  imodintro
  isplitr
  · ipureintro; exact ⟨ha, hz⟩
  · iexact HSI

/-- Every counter of this program is scoped. -/
theorem all_scoped : ∀ sm : SemLoc sig, sm.isScoped .tc = true := by decide

set_option maxRecDepth 8000 in
/-- From any memory, every counter at zero, every weakly fair execution of the program on the sixteen devices ends, with
    each device's arrays as the pipeline's data say and every counter at zero again. -/
theorem run_main : θ_run defs (onTc (τ := τ) (main (F := F))) (s₀ m ρ)
    (fun r => (∀ (c : Dev nD) (w : Fin cfg0.W), (rdats m ρ 0 c).ArrAt w cfg0.N (r.2.mem ((cfg0.win w).arr.view.loc (c : Thread nD τ)))) ∧ r.2.sem = fun _ => 0) := by
  refine (θ_run defs _ _).mono (Q := fun r => (∀ c, Ended m ρ c r.2) ∧ ∀ g : GSem nD τ sig, g.1.2 ≠ .tc → r.2.sem g = 0)
    (fun r hr => ⟨fun c => (hr.1 c).1, sem_eq_zero (sems_of_reads (fun c => (hr.1 c).2) hr.2) fun c sm h => absurd (all_scoped sm) (by rw [h]; decide)⟩)
    (adequate_tpu defs _ _ _ (reflect_intro_fupd_tc_sems (X := Unit) (Variants.lift 𝒱₀) (Pipeline.owing O₀) 0 (noBookings fun _ => le_rfl)
      (Pipeline.owing_of_ne O₀) u₀ (fun _ => begins m ρ) (fun _ => ends m ρ) (fun _ => iprop(emp)) Set.univ ?_ (fun _ c => run_core m ρ c) fun _ => ?_))
  · refine (launch_all m ρ).trans (BI.fupd_mono ?_)
    iintro H
    iexists ()
    isplitl; · iexact H
    iempintro
  · iintro ⟨H, -, Hsc⟩ %s' HSI
    ihave %hsc := (scSems_read_zero m ρ s') $$ [Hsc HSI]
    · isplitl [Hsc]; · iexact Hsc
      iexact HSI
    imod (posts_fupd Finset.univ (end_read m ρ) s') $$ [H HSI] with %h
    · isplitl [H]; · iexact H
      iexact HSI
    imodintro
    ipureintro
    exact ⟨fun c => h c (Finset.mem_univ c), hsc⟩

end Cert.BareProof

end
-- ==== Proof.Bare.Equation.lean ====
/-
  The equation of the exchange as it stands: in every row that the mask sets, what a device leaves is its block of the
  reference's result. The mask leaves out the thirty rows beside a cut, so none of its rows takes an element from another
  device.
-/
module

public import proofs.«01_k».proof.Proof.Bare.Run
public import proofs.«01_k».proof.Proof.Reference
public import proofs.«01_k».proof.On_settled
public import Idealize.ShloMosaic.Lib.Layout

@[expose] public section

noncomputable section

namespace Cert.BareProof

open Cert.KernelIdeal Cert.KernelIdeal.Gen
open Idealize.ShloMosaic Idealize.ShloMosaic.TcCoe Idealize.SL.Sem
open Idealize.ShloMosaic.Pipeline
open Cert.SyncedProof.Whole (gix gix_congr refOut refOut_first refOut_last refOut_inner)

variable {F : FTy → Type} [FloatOps F]
variable (m : (ℓ : Loc nD τ sig) → Buf (Elt F) ℓ) (ρ : Dev nD → PrngReg)

/-! ## The arrays after the run -/

/-- A window that is the whole of an array reads all of it. -/
theorem reads_x (f : main_arg0.ty.Contents (Elt F)) : (win0_0.blk (0 : Fin 1)).view.read (Elt F) f = f := by
  have hz : (fun a => (win0_0.index (0 : Fin 1)) a * main_arg0.ty.shape.size a) = fun _ => 0 := funext fun a => Nat.zero_mul _
  exact Memref.read_access_unit_zero (Elt F) main_arg0 hz (fun a => by rw [congrFun hz a, Nat.zero_add]) _
theorem reads_o (f : main_v1.ty.Contents (Elt F)) : (win0_1.blk (0 : Fin 1)).view.read (Elt F) f = f := by
  have hz : (fun a => (win0_1.index (0 : Fin 1)) a * main_v1.ty.shape.size a) = fun _ => 0 := funext fun a => Nat.zero_mul _
  exact Memref.read_access_unit_zero (Elt F) main_v1 hz (fun a => by rw [congrFun hz a, Nat.zero_add]) _

/-- The argument is as it was. -/
theorem end_x (c : Dev nD) (G : main_arg0.ty.Contents (Elt F)) (h : (rdats m ρ 0 c).ArrAt (0 : Fin 2) cfg0.N G) :
    G = m ((c : Thread nD τ).loc main_arg0) := by
  rw [(rdats m ρ 0 c).ArrAt_in (0 : Fin 2) rfl] at h
  exact h

/-- In the rows that take nothing from another device, the result is what the body leaves there. -/
theorem end_o (c : Dev nD) (G : main_v1.ty.Contents (Elt F)) (h : (rdats m ρ 0 c).ArrAt (1 : Fin 2) cfg0.N G)
    (i : S2048x1024.Idx) (hi : Inside c i) : G i = outAt m ρ c i := by
  rw [show cfg0.N = ((0 : Fin 1) : Fin cfg0.N).val + 1 from rfl, (rdats m ρ 0 c).ArrAt_succ (1 : Fin 2) (0 : Fin 1),
    show (cfg0.win (1 : Fin 2)).flush (0 : Fin 1) = true from by decide, if_pos rfl] at h
  obtain ⟨G₀, X, -, hX, hG⟩ := h
  have hl : ∀ i, Inside c i → X i = outAt m ρ c i := Dat.toRRel_leaves (dat := dats m ρ 0 c) (w := (1 : Fin 2)) rfl hX
  have e : G = X := (reads_o G).symm.trans ((congrArg _ hG).trans (View.read_write_univ _ _))
  rw [e]
  exact hl i hi

/-! ## Blocks of rows -/

/-- Where row `r` of device `c`'s block lies in the whole array. -/
theorem block_ix (h : Layout.Tiles (⟨2, ![2048, 1024]⟩ : Shape) ⟨2, ![32768, 1024]⟩ 0 16) (c : Fin 16) (r : ℕ) (hr : r < 2048) (j : Fin 1024)
    (hg : c.val * 2048 + r < 32768) : h.idx c (ix r hr j) = gix (c.val * 2048 + r) hg j := by
  funext a
  fin_cases a <;> rfl

variable (x : FVec F (⟨2, ![32768, 1024]⟩ : Shape) .f32)

/-- What it says that each device holds its block of `x`. -/
def Cut : Prop := ∀ c : Dev nD, m ((c : Thread nD τ).loc main_arg0) = Layout.block ⟨2, ![2048, 1024]⟩ ⟨2, ![32768, 1024]⟩ 0 16 c x

variable {m x}

/-- Row `r` of device `c` is row `2048 c + r` of `x`. -/
theorem Cut.at (hx : Cut m x) (c : Dev nD) (r : ℕ) (hr : r < 2048) (j : Fin 1024) (g : ℕ) (e : g = c.val * 2048 + r) (hg : g < 32768) :
    xAt m ρ c r hr j = x (gix g hg j) := by
  subst e
  unfold xAt xstg s₀
  rw [reads_x]
  change m ((c : Thread nD τ).loc main_arg0) (ix r hr j) = _
  rw [hx c, Layout.block_apply, block_ix _ c r hr j hg]

/-- In a row that takes nothing from another device, what device `c` leaves is the reference's. -/
theorem inside_eq (hx : Cut m x) (c : Dev nD) (r : ℕ) (hr : r < 2048) (j : Fin 1024) (hi : Inside c (ix r hr j)) (hg : c.val * 2048 + r < 32768) :
    outAt m ρ c (ix r hr j) = refOut x (gix (c.val * 2048 + r) hg j) := by
  have hc : c.val < 16 := c.isLt
  unfold outAt
  change (if h0 : r = 0 then _ else if h1 : r = 2047 then _ else _) = _
  by_cases h0 : r = 0
  · subst h0
    have hz : c.val = 0 := Nat.eq_zero_of_not_pos (hi.1 rfl)
    rw [dif_pos rfl]
    refine (hx.at ρ c 0 _ j 0 (by omega) (by decide)).trans ((refOut_first x j).symm.trans (congrArg _ (gix_congr (by omega) _ _ j)))
  · rw [dif_neg h0]
    by_cases h1 : r = 2047
    · subst h1
      have hz : ¬ c.val < 15 := hi.2 rfl
      rw [dif_pos rfl]
      exact (hx.at ρ c 2047 _ j 32767 (by omega) (by decide)).trans ((refOut_last x j).symm.trans (congrArg _ (gix_congr (by omega) _ _ j)))
    · rw [dif_neg h1]
      obtain ⟨k, rfl⟩ : ∃ k, r = k + 1 := ⟨r - 1, by omega⟩
      have e : refOut x (gix (c.val * 2048 + (k + 1)) hg j) = _ := refOut_inner x (c.val * 2048 + k) (by omega) j
      rw [e, ← hx.at ρ c k (by omega) j (c.val * 2048 + k) rfl (by omega), ← hx.at ρ c (k + 1) hr j (c.val * 2048 + k + 1) rfl (by omega),
        ← hx.at ρ c (k + 2) (by omega) j (c.val * 2048 + k + 2) rfl (by omega)]
      rfl

/-! ## The mask -/

/-- The mask's one side condition: a number spreads over the whole array. -/
theorem spreads : Cert.On_settled.Facts := ⟨by decide⟩

/-- What the mask says of row `g`, as words. -/
def settledAt (g : BitVec 32) : BitVec 1 :=
  let q := IntOp.remsi .host g 2048#32
  (Scalar.cmpi .ne q 0#32 &&& Scalar.cmpi .ne q 2047#32) ||| (Scalar.cmpi .eq g 0#32 ||| Scalar.cmpi .eq g 32767#32)

theorem mask_at (x : FVec F (⟨2, ![32768, 1024]⟩ : Shape) .f32) (g : ℕ) (hg : g < 32768) (j : Fin 1024) :
    @Cert.On_settled.fn spreads F _ x (gix g hg j) = settledAt (BitVec.ofNat 32 g) := rfl

/-- Of the first rows of the devices only the very first is in the mask, of the last ones only the very last. -/
theorem mask_first : ∀ c : Fin 16, settledAt (BitVec.ofNat 32 (c.val * 2048 + 0)) = 1#1 → c.val = 0 := by decide
theorem mask_last : ∀ c : Fin 16, settledAt (BitVec.ofNat 32 (c.val * 2048 + 2047)) = 1#1 → c.val = 15 := by decide

end Cert.BareProof

end
-- ==== Proof.Bare.SameText.lean ====
/-
  The program over words and the one over the extended reals are the same text: their tables of bodies agree, over any
  float values.
-/
module

public import proofs.«01_k».proof.Proof.Gen.Kernel
public import proofs.«01_k».proof.Proof.Gen.KernelIdeal

@[expose] public section

noncomputable section

namespace Cert.BareProof

open Idealize.ShloMosaic

variable {F : FTy → Type} [FloatOps F]

/-- The kernel's body, under its one label. -/
theorem bodies_same : Cert.Kernel.defs₀ (F := F) = Cert.KernelIdeal.defs₀ (F := F) := by
  unfold Cert.Kernel.defs₀ Cert.KernelIdeal.defs₀
  refine congrArg Defs.onTc ?_
  funext ℓ a
  match ℓ, a with
  | 0, (t, s) => rfl
  | ⟨_ + 1, h⟩, _ => exact absurd h (Nat.not_lt.2 (Nat.le_add_left _ _))

/-- The whole table. -/
theorem defs_same : Cert.Kernel.defs (F := F) = Cert.KernelIdeal.defs (F := F) := by
  unfold Cert.Kernel.defs Cert.KernelIdeal.defs
  exact congrArg (Pipeline.defs Cert.KernelIdeal.pcfgs) bodies_same

end Cert.BareProof

end
-- ==== Proof.lean ====
/-
  The proof of the certificate's claims: the exchange as it stands runs, and computes the stencil in every row but the
  thirty beside a cut; with its entry handshake it runs and computes the stencil in every row.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.Synced
public import proofs.«01_k».proof.Proof.Gen.SyncedIdeal
public import proofs.«01_k».proof.Proof.Gen.SyncedIdeal.Skeleton
public import proofs.«01_k».proof.Proof.Gen.SyncedIdeal.Launch
public import proofs.«01_k».proof.Proof.Gen.SyncedIdeal.Points
public import proofs.«01_k».proof.Proof.Gen.ReferenceIdeal
public import proofs.«01_k».proof.Proof.Gen.ReferenceIdeal.Run
public import proofs.«01_k».proof.Proof.Equation
public import proofs.«01_k».proof.Proof.SameText
public import proofs.«01_k».proof.Proof.Bare.Equation
public import proofs.«01_k».proof.Proof.Bare.SameText
public import Idealize.ShloMosaic.Adequacy
public import Idealize.ShloMosaic.Init

@[expose] public section

noncomputable section

namespace Cert.Proof

open Idealize.ShloMosaic Idealize.ShloMosaic.TcCoe Idealize.SL.Sem
open Cert.SyncedProof

/-! ## The exchange as it stands -/

/-- Over words: every fair execution ends, the argument is as it was and every counter at zero. -/
theorem bare_words : Cert.quiescent_Kernel := fun m ρ _ => by
  rw [Cert.BareProof.defs_same]
  exact (θ_run (Cert.KernelIdeal.defs (F := Bits)) (onTc (τ := Cert.KernelIdeal.τ) (Cert.KernelIdeal.main (F := Bits))) (Cert.BareProof.s₀ m ρ)).mono
    (fun _ h => ⟨fun c => Cert.BareProof.end_x m ρ c _ (h.1 c (0 : Fin 2)), h.2⟩) (Cert.BareProof.run_main (F := Bits) m ρ)

/-- The same over the extended reals. -/
theorem bare_reals : Cert.quiescent_KernelIdeal := fun m ρ _ =>
  (θ_run Cert.KernelIdeal.defs _ _).mono (fun _ h => ⟨fun c => Cert.BareProof.end_x m ρ c _ (h.1 c (0 : Fin 2)), h.2⟩)
    (Cert.BareProof.run_main (F := Ideal) m ρ)

/-- A place that the mask sets takes nothing from another device. -/
theorem masked_inside (x : FVec Ideal (⟨2, ![32768, 1024]⟩ : Shape) .f32) (c : Dev Cert.KernelIdeal.nD) (r : ℕ) (hr : r < 2048) (j : Fin 1024)
    (h : (Layout.block ⟨2, ![2048, 1024]⟩ ⟨2, ![32768, 1024]⟩ 0 16 c (@Cert.On_settled.fn Cert.BareProof.spreads Ideal _ x) : (⟨2, ![2048, 1024]⟩ : Shape).Idx → _)
      (Cert.BareProof.ix r hr j) = 1#1) : Cert.BareProof.Inside c (Cert.BareProof.ix r hr j) := by
  have hc : c.val < 16 := c.isLt
  have hg : c.val * 2048 + r < 32768 := by omega
  rw [Layout.block_apply, Cert.BareProof.block_ix _ c r hr j hg, Cert.BareProof.mask_at x _ hg j] at h
  refine ⟨fun h0 hh => ?_, fun h1 hh => ?_⟩
  · have e : r = 0 := h0
    subst e
    have hz := Cert.BareProof.mask_first c h
    have hp : 0 < c.val := hh
    omega
  · have e : r = 2047 := h1
    subst e
    have hz := Cert.BareProof.mask_last c h
    have hp : c.val < 15 := hh
    omega

/-- Over the extended reals device `c`'s result is block `c` of the reference's in every row of the mask. -/
theorem bare_value : Cert.algebraic_KernelIdeal_ReferenceIdeal_on_settled (hOn_settled := Cert.BareProof.spreads) := by
  intro m ρ m' ρ' _ hx
  refine ⟨Whole.refOut (F := Ideal) (m' (((0 : Dev Cert.ReferenceIdeal.nD).tc : Thread _ Cert.ReferenceIdeal.τ).loc Cert.ReferenceIdeal.main_arg0)), ?_, ?_⟩
  · refine (θ_run Cert.KernelIdeal.defs _ _).mono (fun r h c => ⟨fun i hi => ?_, Cert.BareProof.end_x m ρ c _ (h.1 c (0 : Fin 2))⟩)
      (Cert.BareProof.run_main (F := Ideal) m ρ)
    obtain ⟨k, hk, j, rfl⟩ : ∃ k hk j, i = Cert.BareProof.ix k hk j := ⟨_, _, _, Cert.BareProof.ix_eta i⟩
    have hc : c.val < 16 := c.isLt
    have hg : c.val * 2048 + k < 32768 := by omega
    have hin := masked_inside _ c k hk j hi
    refine (Cert.BareProof.end_o m ρ c _ (h.1 c (1 : Fin 2)) _ hin).trans ((Cert.BareProof.inside_eq ρ hx c k hk j hin hg).trans ?_)
    rw [Layout.block_apply, Cert.BareProof.block_ix _ c k hk j hg]
  · exact (θ_run Cert.ReferenceIdeal.defs _ _).mono (fun _ h => ⟨fun i _ => congrFun (h 0).1 i, (h 0).2⟩) (Whole.run_ref (F := Ideal) m' ρ')

/-! ## The exchange with its entry handshake -/

/-- The kernel over words: every fair execution ends, the argument is as it was and every counter at zero. The run is
    the one over any float values, at words. -/
theorem frame_words : Cert.quiescent_Synced := fun m ρ _ => by
  rw [defs_same]
  exact (θ_run (Cert.SyncedIdeal.defs (F := Bits)) (onTc (τ := Cert.SyncedIdeal.τ) (Cert.SyncedIdeal.main (F := Bits))) (Cert.SyncedProof.s₀ m ρ)).mono
    (fun _ h => ⟨fun c => (h.1 c (0 : Fin 2)).trans (endArr_x m ρ c), h.2⟩) (run_main (F := Bits) m ρ)

/-- The same over the extended reals. -/
theorem frame_reals : Cert.quiescent_SyncedIdeal := fun m ρ _ =>
  (θ_run Cert.SyncedIdeal.defs _ _).mono (fun _ h => ⟨fun c => (h.1 c (0 : Fin 2)).trans (endArr_x m ρ c), h.2⟩) (run_main (F := Ideal) m ρ)

/-- The reference runs, leaves its argument, and has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Whole.run_ref (F := Ideal) m ρ)

/-- Over the extended reals device `c`'s result is block `c` of the reference's. -/
theorem value : Cert.algebraic_SyncedIdeal_ReferenceIdeal := by
  intro m ρ m' ρ' _ hx
  refine ⟨Whole.refOut (F := Ideal) (m' (((0 : Dev Cert.ReferenceIdeal.nD).tc : Thread _ Cert.ReferenceIdeal.τ).loc Cert.ReferenceIdeal.main_arg0)), ?_, ?_⟩
  · exact (θ_run Cert.SyncedIdeal.defs _ _).mono
      (fun _ h c => ⟨(h.1 c (1 : Fin 2)).trans ((endArr_o m ρ c).trans (outAt_eq ρ hx c)), (h.1 c (0 : Fin 2)).trans (endArr_x m ρ c)⟩)
      (run_main (F := Ideal) m ρ)
  · exact (θ_run Cert.ReferenceIdeal.defs _ _).mono (fun _ h => h 0) (Whole.run_ref (F := Ideal) m' ρ')

/-- All the claims. -/
theorem claim : Cert.Claim :=
  ⟨Cert.Kernel.Gen.facts, Cert.KernelIdeal.Gen.facts, Cert.Synced.Gen.facts, Cert.SyncedIdeal.Gen.facts, Cert.ReferenceIdeal.Gen.facts,
    Cert.BareProof.spreads, bare_words, bare_reals, frame_words, frame_reals, frame_reference, trivial, trivial, bare_value, value⟩

end Cert.Proof

end
